-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S7x3072x3072 : Shape := ⟨3, ![7, 3072, 3072]⟩
abbrev S7x12288x3072 : Shape := ⟨3, ![7, 12288, 3072]⟩
abbrev S7x12288 : Shape := ⟨2, ![7, 12288]⟩
abbrev S3072x3072 : Shape := ⟨2, ![3072, 3072]⟩
abbrev S_ : Shape := ⟨0, ![]⟩

class Facts : Prop where
  bcast_S_S7x3072x3072 : S_.BroadcastsInDim S7x3072x3072 (![] : Fin 0 → Fin S7x3072x3072.rank)
  bcast_S_S7x12288 : S_.BroadcastsInDim S7x12288 (![] : Fin 0 → Fin S7x12288.rank)
  bcast_S_S3072x3072 : S_.BroadcastsInDim S3072x3072 (![] : Fin 0 → Fin S3072x3072.rank)

variable [Facts]

def fn {F : FTy → Type} [FloatOps F] (main_arg0 : FVec F S7x3072x3072 .bf16) (main_arg1 : IVec S7x12288x3072 8) (main_arg2 : FVec F S7x12288 .f32) (main_arg3 : FVec F S3072x3072 .bf16) (main_arg4 : FVec F S3072x3072 .bf16) (main_arg5 : FVec F S3072x3072 .bf16) : IVec S7x3072x3072 1 × IVec S7x12288 1 × IVec S3072x3072 1 × IVec S3072x3072 1 × IVec S3072x3072 1 :=
  let main_v0 : FVec F S7x3072x3072 .bf16 := Host.absf main_arg0
  let main_cst : FVec F S_ .bf16 := constant S_ .bf16 0x7F80#16
  let main_v1 : FVec F S7x3072x3072 .bf16 := broadcastInDim S7x3072x3072 ![] bcast_S_S7x3072x3072 main_cst
  let main_v2 : IVec S7x3072x3072 1 := cmpf .olt main_v0 main_v1
  let main_v3 : FVec F S7x12288 .f32 := Host.absf main_arg2
  let main_cst_0 : FVec F S_ .f32 := constant S_ .f32 0x7F800000#32
  let main_v4 : FVec F S7x12288 .f32 := broadcastInDim S7x12288 ![] bcast_S_S7x12288 main_cst_0
  let main_v5 : IVec S7x12288 1 := cmpf .olt main_v3 main_v4
  let main_v6 : FVec F S3072x3072 .bf16 := Host.absf main_arg3
  let main_cst_1 : FVec F S_ .bf16 := constant S_ .bf16 0x7F80#16
  let main_v7 : FVec F S3072x3072 .bf16 := broadcastInDim S3072x3072 ![] bcast_S_S3072x3072 main_cst_1
  let main_v8 : IVec S3072x3072 1 := cmpf .olt main_v6 main_v7
  let main_v9 : FVec F S3072x3072 .bf16 := Host.absf main_arg4
  let main_cst_2 : FVec F S_ .bf16 := constant S_ .bf16 0x7F80#16
  let main_v10 : FVec F S3072x3072 .bf16 := broadcastInDim S3072x3072 ![] bcast_S_S3072x3072 main_cst_2
  let main_v11 : IVec S3072x3072 1 := cmpf .olt main_v9 main_v10
  let main_v12 : FVec F S3072x3072 .bf16 := Host.absf main_arg5
  let main_cst_3 : FVec F S_ .bf16 := constant S_ .bf16 0x7F80#16
  let main_v13 : FVec F S3072x3072 .bf16 := broadcastInDim S3072x3072 ![] bcast_S_S3072x3072 main_cst_3
  let main_v14 : IVec S3072x3072 1 := cmpf .olt main_v12 main_v13
  (main_v2, main_v5, main_v8, main_v11, main_v14)
-- ==== Kernel.lean ====
abbrev S7x3072x3072 : Shape := ⟨3, ![7, 3072, 3072]⟩
abbrev S7x12288x3072 : Shape := ⟨3, ![7, 12288, 3072]⟩
abbrev S7x12288 : Shape := ⟨2, ![7, 12288]⟩
abbrev S3072x3072 : Shape := ⟨2, ![3072, 3072]⟩
abbrev S7x12288x1 : Shape := ⟨3, ![7, 12288, 1]⟩
abbrev S12288x3072 : Shape := ⟨2, ![12288, 3072]⟩
abbrev S1x256x3072 : Shape := ⟨3, ![1, 256, 3072]⟩
abbrev S1x256x1 : Shape := ⟨3, ![1, 256, 1]⟩
abbrev S1x3072x768 : Shape := ⟨3, ![1, 3072, 768]⟩
abbrev S1024x768 : Shape := ⟨2, ![1024, 768]⟩
abbrev S2x1024x3072 : Shape := ⟨3, ![2, 1024, 3072]⟩
abbrev S4x1024x768 : Shape := ⟨3, ![4, 1024, 768]⟩
abbrev S256x1 : Shape := ⟨2, ![256, 1]⟩
abbrev S256x3072 : Shape := ⟨2, ![256, 3072]⟩
abbrev S1x768x768 : Shape := ⟨3, ![1, 768, 768]⟩
abbrev S768x768 : Shape := ⟨2, ![768, 768]⟩
abbrev S768 : Shape := ⟨1, ![768]⟩
abbrev S1x768 : Shape := ⟨2, ![1, 768]⟩
abbrev S1x1024x3072 : Shape := ⟨3, ![1, 1024, 3072]⟩
abbrev S1024x3072 : Shape := ⟨2, ![1024, 3072]⟩
abbrev S3072x768 : Shape := ⟨2, ![3072, 768]⟩
abbrev S1x1024x768 : Shape := ⟨3, ![1, 1024, 768]⟩
abbrev S3072x256 : Shape := ⟨2, ![3072, 256]⟩
abbrev S1024x256 : Shape := ⟨2, ![1024, 256]⟩

abbrev nBuf : Space → Nat
  | .hbm => 11
  | .vmem => 28
  | .smem => 0
  | _ => 0

abbrev bufTy : (tb : Table) → Fin (tcTables nBuf tb) → BufTy
  | .hbm, ⟨0, _⟩ => ⟨S7x3072x3072, .bf16⟩
  | .hbm, ⟨1, _⟩ => ⟨S7x12288x3072, .i8⟩
  | .hbm, ⟨2, _⟩ => ⟨S7x12288, .f32⟩
  | .hbm, ⟨3, _⟩ => ⟨S3072x3072, .bf16⟩
  | .hbm, ⟨4, _⟩ => ⟨S3072x3072, .bf16⟩
  | .hbm, ⟨5, _⟩ => ⟨S3072x3072, .bf16⟩
  | .hbm, ⟨6, _⟩ => ⟨S7x12288x1, .f32⟩
  | .hbm, ⟨7, _⟩ => ⟨S12288x3072, .bf16⟩
  | .hbm, ⟨8, _⟩ => ⟨S12288x3072, .bf16⟩
  | .hbm, ⟨9, _⟩ => ⟨S12288x3072, .bf16⟩
  | .hbm, ⟨10, _⟩ => ⟨S12288x3072, .bf16⟩
  | .local _ .vmem, ⟨0, _⟩ => ⟨S1x256x3072, .i8⟩
  | .local _ .vmem, ⟨1, _⟩ => ⟨S1x256x3072, .i8⟩
  | .local _ .vmem, ⟨2, _⟩ => ⟨S1x256x1, .f32⟩
  | .local _ .vmem, ⟨3, _⟩ => ⟨S1x256x1, .f32⟩
  | .local _ .vmem, ⟨4, _⟩ => ⟨S1x3072x768, .bf16⟩
  | .local _ .vmem, ⟨5, _⟩ => ⟨S1x3072x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S2x1024x3072, .bf16⟩
  | .local _ .vmem, ⟨13, _⟩ => ⟨S4x1024x768, .f32⟩
  | .local _ .vmem, ⟨14, _⟩ => ⟨S1024x3072, .bf16⟩
  | .local _ .vmem, ⟨15, _⟩ => ⟨S1024x3072, .bf16⟩
  | .local _ .vmem, ⟨16, _⟩ => ⟨S1024x3072, .bf16⟩
  | .local _ .vmem, ⟨17, _⟩ => ⟨S1024x3072, .bf16⟩
  | .local _ .vmem, ⟨18, _⟩ => ⟨S1024x3072, .bf16⟩
  | .local _ .vmem, ⟨19, _⟩ => ⟨S1024x3072, .bf16⟩
  | .local _ .vmem, ⟨20, _⟩ => ⟨S3072x256, .bf16⟩
  | .local _ .vmem, ⟨21, _⟩ => ⟨S3072x256, .bf16⟩
  | .local _ .vmem, ⟨22, _⟩ => ⟨S3072x256, .bf16⟩
  | .local _ .vmem, ⟨23, _⟩ => ⟨S3072x256, .bf16⟩
  | .local _ .vmem, ⟨24, _⟩ => ⟨S3072x256, .bf16⟩
  | .local _ .vmem, ⟨25, _⟩ => ⟨S3072x256, .bf16⟩
  | .local _ .vmem, ⟨26, _⟩ => ⟨S1024x256, .bf16⟩
  | .local _ .vmem, ⟨27, _⟩ => ⟨S1024x256, .bf16⟩
  | _, _ => ⟨S7x3072x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![85, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c2_i32 : BitVec 32 := 2#32
  let v19 : BitVec 32 := Scalar.remsi arg0 c2_i32
  let v21 : Index := Scalar.indexCast v19
  let arg1 : BitVec 32 := BitVec.ofNat 32 (i 1).val
  let c256_i32 : BitVec 32 := 256#32
  let v20 : BitVec 32 := Scalar.muli arg1 c256_i32
  let v22 : Index := Scalar.indexCast v20
  let c0_10 : Index := 0#32
  ![v21.toNat, v22.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c84_i32 : BitVec 32 := 84#32
  let v4 : BitVec 1 := Scalar.cmpi .slt arg0 c84_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off2 (i : grid0.Coords) : Fin 3 → Nat :=
  let arg0 : BitVec 32 := BitVec.ofNat 32 (i 0).val
  let c2_i32 : BitVec 32 := 2#32
  let v19 : BitVec 32 := Scalar.remsi arg0 c2_i32
  let v21 : Index := Scalar.indexCast v19
  let arg1 : BitVec 32 := BitVec.ofNat 32 (i 1).val
  let c256_i32 : BitVec 32 := 256#32
  let v20 : BitVec 32 := Scalar.muli arg1 c256_i32
  let v22 : Index := Scalar.indexCast v20
  let c0_10 : Index := 0#32
  ![v21.toNat, v22.toNat, 0]
def k0_off3 (i : grid0.Coords) : Fin 3 → Nat :=
  let c0_13 : Index := 0#32
  let arg1 : BitVec 32 := BitVec.ofNat 32 (i 1).val
  let c768_i32 : BitVec 32 := 768#32
  let v30 : BitVec 32 := Scalar.muli arg1 c768_i32
  let v31 : Index := Scalar.indexCast v30
  let c0_14 : Index := 0#32
  ![0, v31.toNat, 0]
def k0_off4 (i : grid0.Coords) : Fin 3 → Nat :=
  let arg0 : BitVec 32 := BitVec.ofNat 32 (i 0).val
  let c1_i32_11 : BitVec 32 := 1#32
  let v28 : BitVec 32 := Scalar.subi arg0 c1_i32_11
  let c2_i32_12 : BitVec 32 := 2#32
  let v29 : BitVec 32 := Scalar.remsi v28 c2_i32_12
  let v42 : Index := Scalar.indexCast v29
  let c0_16 : Index := 0#32
  let c0_17 : Index := 0#32
  ![v42.toNat, 0, 0]
def k0_off5 (i : grid0.Coords) : Fin 3 → Nat :=
  let arg0 : BitVec 32 := BitVec.ofNat 32 (i 0).val
  let c1_i32_11 : BitVec 32 := 1#32
  let v28 : BitVec 32 := Scalar.subi arg0 c1_i32_11
  let c2_i32_12 : BitVec 32 := 2#32
  let v29 : BitVec 32 := Scalar.remsi v28 c2_i32_12
  let c0_i32_24 : BitVec 32 := 0#32
  let c0_i32_25 : BitVec 32 := 0#32
  ![v29.toNat, 0, 0]
def k0_off6 (i : grid0.Coords) : Fin 2 → Nat :=
  let c0_26 : Index := 0#32
  let arg1 : BitVec 32 := BitVec.ofNat 32 (i 1).val
  let c768_i32_23 : BitVec 32 := 768#32
  let v50 : BitVec 32 := Scalar.muli arg1 c768_i32_23
  let v53 : Index := Scalar.indexCast v50
  ![0, v53.toNat]
def k0_off7 (i : grid0.Coords) : Fin 3 → Nat :=
  let arg1 : BitVec 32 := BitVec.ofNat 32 (i 1).val
  let v62 : Index := Scalar.indexCast arg1
  let c0_29 : Index := 0#32
  let c0_30 : Index := 0#32
  ![v62.toNat, 0, 0]
def k0_cond3 (i : grid0.Coords) : BitVec 1 :=
  let arg0 : BitVec 32 := BitVec.ofNat 32 (i 0).val
  let c1_i32 : BitVec 32 := 1#32
  let v26 : BitVec 32 := Scalar.subi arg0 c1_i32
  let c7_i32 : BitVec 32 := 7#32
  let v27 : BitVec 32 := Scalar.remsi v26 c7_i32
  let c6_i32 : BitVec 32 := 6#32
  let v72 : BitVec 1 := Scalar.cmpi .eq v27 c6_i32
  let v73 : BitVec 32 := Scalar.extui v72
  let c0_i32_34 : BitVec 32 := 0#32
  let v74 : BitVec 1 := Scalar.cmpi .ne v73 c0_i32_34
  v74

def k0_off8 (i : grid0.Coords) : Fin 3 → Nat :=
  let arg1 : BitVec 32 := BitVec.ofNat 32 (i 1).val
  let v75 : Index := Scalar.indexCast arg1
  let c0_35 : Index := 0#32
  let c0_36 : Index := 0#32
  ![v75.toNat, 0, 0]
def k0_cond4 (i : grid0.Coords) : BitVec 1 :=
  let arg0 : BitVec 32 := BitVec.ofNat 32 (i 0).val
  let c84_i32_3 : BitVec 32 := 84#32
  let v8 : BitVec 1 := Scalar.cmpi .eq arg0 c84_i32_3
  let v9 : BitVec 32 := Scalar.extui v8
  let c0_i32_4 : BitVec 32 := 0#32
  let v10 : BitVec 1 := Scalar.cmpi .ne v9 c0_i32_4
  v10

def k0_off9 (i : grid0.Coords) : Fin 3 → Nat :=
  let c0 : Index := 0#32
  let arg1 : BitVec 32 := BitVec.ofNat 32 (i 1).val
  let c768_i32 : BitVec 32 := 768#32
  let v15 : BitVec 32 := Scalar.muli arg1 c768_i32
  let v16 : Index := Scalar.indexCast v15
  let c0_6 : Index := 0#32
  ![0, v16.toNat, 0]
def k0_off10 (i : grid0.Coords) : Fin 3 → Nat :=
  let arg0 : BitVec 32 := BitVec.ofNat 32 (i 0).val
  let c1_i32_5 : BitVec 32 := 1#32
  let v13 : BitVec 32 := Scalar.subi arg0 c1_i32_5
  let c2_i32 : BitVec 32 := 2#32
  let v14 : BitVec 32 := Scalar.remsi v13 c2_i32
  let v27 : Index := Scalar.indexCast v14
  let c0_8 : Index := 0#32
  let c0_9 : Index := 0#32
  ![v27.toNat, 0, 0]
def k0_off11 (i : grid0.Coords) : Fin 3 → Nat :=
  let arg0 : BitVec 32 := BitVec.ofNat 32 (i 0).val
  let c1_i32_5 : BitVec 32 := 1#32
  let v13 : BitVec 32 := Scalar.subi arg0 c1_i32_5
  let c2_i32 : BitVec 32 := 2#32
  let v14 : BitVec 32 := Scalar.remsi v13 c2_i32
  let c0_i32_16 : BitVec 32 := 0#32
  let c0_i32_17 : BitVec 32 := 0#32
  ![v14.toNat, 0, 0]
def k0_off12 (i : grid0.Coords) : Fin 2 → Nat :=
  let c0_18 : Index := 0#32
  let arg1 : BitVec 32 := BitVec.ofNat 32 (i 1).val
  let c768_i32_15 : BitVec 32 := 768#32
  let v35 : BitVec 32 := Scalar.muli arg1 c768_i32_15
  let v38 : Index := Scalar.indexCast v35
  ![0, v38.toNat]
def k0_off13 (i : grid0.Coords) : Fin 3 → Nat :=
  let arg1 : BitVec 32 := BitVec.ofNat 32 (i 1).val
  let v47 : Index := Scalar.indexCast arg1
  let c0_21 : Index := 0#32
  let c0_22 : Index := 0#32
  ![v47.toNat, 0, 0]
def k0_cond5 (i : grid0.Coords) : BitVec 1 :=
  let arg0 : BitVec 32 := BitVec.ofNat 32 (i 0).val
  let c1_i32 : BitVec 32 := 1#32
  let v11 : BitVec 32 := Scalar.subi arg0 c1_i32
  let c7_i32 : BitVec 32 := 7#32
  let v12 : BitVec 32 := Scalar.remsi v11 c7_i32
  let c6_i32 : BitVec 32 := 6#32
  let v57 : BitVec 1 := Scalar.cmpi .eq v12 c6_i32
  let v58 : BitVec 32 := Scalar.extui v57
  let c0_i32_26 : BitVec 32 := 0#32
  let v59 : BitVec 1 := Scalar.cmpi .ne v58 c0_i32_26
  v59

def k0_off14 (i : grid0.Coords) : Fin 3 → Nat :=
  let arg1 : BitVec 32 := BitVec.ofNat 32 (i 1).val
  let v60 : Index := Scalar.indexCast arg1
  let c0_27 : Index := 0#32
  let c0_28 : Index := 0#32
  ![v60.toNat, 0, 0]
def cc0_transform_0 (i : grid0.Coords) : Fin 3 → Nat :=
  let arg0 : BitVec 32 := BitVec.ofNat 32 (i 0).val
  let arg1 : BitVec 32 := BitVec.ofNat 32 (i 1).val
  let c83_i32 : BitVec 32 := 83#32
  let v0 : BitVec 32 := Scalar.minsi arg0 c83_i32
  let c7_i32 : BitVec 32 := 7#32
  let v1 : BitVec 32 := Scalar.remsi v0 c7_i32
  let c7_i32_0 : BitVec 32 := 7#32
  let v2 : BitVec 32 := Scalar.divsi v0 c7_i32_0
  let c4_i32 : BitVec 32 := 4#32
  let v3 : BitVec 32 := Scalar.muli v2 c4_i32
  let v4 : BitVec 32 := Scalar.addi v3 arg1
  let c0_i32 : BitVec 32 := 0#32
  let c0_i32_1 : BitVec 32 := 0#32
  ![v1.toNat, v4.toNat, c0_i32.toNat]

def cc0_transform_1 (i : grid0.Coords) : Fin 3 → Nat :=
  let arg0 : BitVec 32 := BitVec.ofNat 32 (i 0).val
  let arg1 : BitVec 32 := BitVec.ofNat 32 (i 1).val
  let c83_i32 : BitVec 32 := 83#32
  let v0 : BitVec 32 := Scalar.minsi arg0 c83_i32
  let c7_i32 : BitVec 32 := 7#32
  let v1 : BitVec 32 := Scalar.remsi v0 c7_i32
  let c7_i32_0 : BitVec 32 := 7#32
  let v2 : BitVec 32 := Scalar.divsi v0 c7_i32_0
  let c4_i32 : BitVec 32 := 4#32
  let v3 : BitVec 32 := Scalar.muli v2 c4_i32
  let v4 : BitVec 32 := Scalar.addi v3 arg1
  let c0_i32 : BitVec 32 := 0#32
  let c0_i32_1 : BitVec 32 := 0#32
  ![v1.toNat, v4.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c83_i32 : BitVec 32 := 83#32
  let v2 : BitVec 32 := Scalar.minsi v1 c83_i32
  let c7_i32 : BitVec 32 := 7#32
  let v3 : BitVec 32 := Scalar.remsi v2 c7_i32
  let c7_i32_0 : BitVec 32 := 7#32
  let v4 : BitVec 32 := Scalar.divsi v2 c7_i32_0
  let c0_i32_1 : BitVec 32 := 0#32
  let v5 : BitVec 1 := Scalar.cmpi .eq arg0 c0_i32_1
  let c0_i32_2 : BitVec 32 := 0#32
  let v6 : BitVec 32 := Scalar.select v5 c0_i32_2 arg1
  let c0_i32_3 : BitVec 32 := 0#32
  let c0_i32_4 : BitVec 32 := 0#32
  ![v3.toNat, c0_i32_3.toNat, v6.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c83_i32 : BitVec 32 := 83#32
  let v2 : BitVec 32 := Scalar.minsi v1 c83_i32
  let c7_i32 : BitVec 32 := 7#32
  let v3 : BitVec 32 := Scalar.remsi v2 c7_i32
  let c7_i32_0 : BitVec 32 := 7#32
  let v4 : BitVec 32 := Scalar.divsi v2 c7_i32_0
  let c6_i32 : BitVec 32 := 6#32
  let v5 : BitVec 1 := Scalar.cmpi .eq v3 c6_i32
  let c0_i32_1 : BitVec 32 := 0#32
  let v6 : BitVec 1 := Scalar.cmpi .sgt arg0 c0_i32_1
  let v7 : BitVec 1 := Scalar.andi v5 v6
  let c0_i32_2 : BitVec 32 := 0#32
  let v8 : BitVec 32 := Scalar.select v7 arg1 c0_i32_2
  let c0_i32_3 : BitVec 32 := 0#32
  ![v4.toNat, v8.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c83_i32 : BitVec 32 := 83#32
  let v2 : BitVec 32 := Scalar.minsi v1 c83_i32
  let c7_i32 : BitVec 32 := 7#32
  let v3 : BitVec 32 := Scalar.remsi v2 c7_i32
  let c7_i32_0 : BitVec 32 := 7#32
  let v4 : BitVec 32 := Scalar.divsi v2 c7_i32_0
  let c6_i32 : BitVec 32 := 6#32
  let v5 : BitVec 1 := Scalar.cmpi .eq v3 c6_i32
  let c0_i32_1 : BitVec 32 := 0#32
  let v6 : BitVec 1 := Scalar.cmpi .sgt arg0 c0_i32_1
  let v7 : BitVec 1 := Scalar.andi v5 v6
  let c0_i32_2 : BitVec 32 := 0#32
  let v8 : BitVec 32 := Scalar.select v7 arg1 c0_i32_2
  let c0_i32_3 : BitVec 32 := 0#32
  ![v4.toNat, v8.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c83_i32 : BitVec 32 := 83#32
  let v2 : BitVec 32 := Scalar.minsi v1 c83_i32
  let c7_i32 : BitVec 32 := 7#32
  let v3 : BitVec 32 := Scalar.remsi v2 c7_i32
  let c7_i32_0 : BitVec 32 := 7#32
  let v4 : BitVec 32 := Scalar.divsi v2 c7_i32_0
  let c6_i32 : BitVec 32 := 6#32
  let v5 : BitVec 1 := Scalar.cmpi .eq v3 c6_i32
  let c0_i32_1 : BitVec 32 := 0#32
  let v6 : BitVec 1 := Scalar.cmpi .sgt arg0 c0_i32_1
  let v7 : BitVec 1 := Scalar.andi v5 v6
  let c0_i32_2 : BitVec 32 := 0#32
  let v8 : BitVec 32 := Scalar.select v7 arg1 c0_i32_2
  let c0_i32_3 : BitVec 32 := 0#32
  ![v4.toNat, v8.toNat]

abbrev stage0_0 : Fin 2 → Memref sig .tc .vmem S1x256x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3072x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![12, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x3072 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S3072x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S3072x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S3072x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S7x3072x3072 : Shape := ⟨3, ![7, 3072, 3072]⟩
abbrev S7x12288x3072 : Shape := ⟨3, ![7, 12288, 3072]⟩
abbrev S7x12288 : Shape := ⟨2, ![7, 12288]⟩
abbrev S3072x3072 : Shape := ⟨2, ![3072, 3072]⟩
abbrev S12288x3072 : Shape := ⟨2, ![12288, 3072]⟩
abbrev S7x12288x1 : Shape := ⟨3, ![7, 12288, 1]⟩
abbrev S7x3072 : Shape := ⟨2, ![7, 3072]⟩
abbrev S7x1x3072 : Shape := ⟨3, ![7, 1, 3072]⟩

abbrev nBuf : Space → Nat
  | .hbm => 7
  | .vmem => 7
  | .smem => 0
  | _ => 0

abbrev bufTy : (tb : Table) → Fin (tcTables nBuf tb) → BufTy
  | .hbm, ⟨0, _⟩ => ⟨S7x3072x3072, .bf16⟩
  | .hbm, ⟨1, _⟩ => ⟨S7x12288x3072, .i8⟩
  | .hbm, ⟨2, _⟩ => ⟨S7x12288, .f32⟩
  | .hbm, ⟨3, _⟩ => ⟨S3072x3072, .bf16⟩
  | .hbm, ⟨4, _⟩ => ⟨S3072x3072, .bf16⟩
  | .hbm, ⟨5, _⟩ => ⟨S3072x3072, .bf16⟩
  | .hbm, ⟨6, _⟩ => ⟨S12288x3072, .bf16⟩
  | .local _ .vmem, ⟨0, _⟩ => ⟨S7x3072x3072, .bf16⟩
  | .local _ .vmem, ⟨1, _⟩ => ⟨S7x12288x3072, .i8⟩
  | .local _ .vmem, ⟨2, _⟩ => ⟨S7x12288, .f32⟩
  | .local _ .vmem, ⟨3, _⟩ => ⟨S3072x3072, .bf16⟩
  | .local _ .vmem, ⟨4, _⟩ => ⟨S3072x3072, .bf16⟩
  | .local _ .vmem, ⟨5, _⟩ => ⟨S3072x3072, .bf16⟩
  | .local _ .vmem, ⟨6, _⟩ => ⟨S12288x3072, .bf16⟩
  | _, _ => ⟨S7x3072x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S7x3072x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x12288x3072 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.K.Body.lean ====
/-
  What one grid point of the first region (`cc0_rhs`) does to the buffers it is handed, by its four cases: the first
  step (only dequantise), a middle step without and with the output store, and the last step (only accumulate).
-/
module

public import proofs.«01_k».proof.Proof.Gen.Kernel.Skeleton
public import proofs.«01_k».proof.Proof.Gen.Kernel.Points
public import Idealize.ShloMosaic.Lib.VecWindow
public import Idealize.ShloMosaic.Lib.Tactic
public import Idealize.ShloMosaic.Lib.Pipeline.Kit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two scratch buffers: two slots of dequantised rows, and the four column tiles' accumulators. -/
abbrev wbM : Memref sig .tc .vmem S2x1024x3072 .bf16 := Memref.whole cc0_scratch0
abbrev accM : Memref sig .tc .vmem S4x1024x768 .f32 := Memref.whole cc0_scratch1

/-- The scratch buffers held at given values. -/
abbrev wbPt (c : Dev nD) (W : S2x1024x3072.Idx → Elt F .bf16) : sProp 𝕄 := wbM.view.loc (c : Thread nD τ) ↦{fullShare} W
abbrev accPt (c : Dev nD) (A : S4x1024x768.Idx → Elt F .f32) : sProp 𝕄 := accM.view.loc (c : Thread nD τ) ↦{fullShare} A

/-! ## The step's values -/

/-- Where a step writes its 256 dequantised rows. -/
abbrev putOff (i : grid0.Coords) : Fin 3 → ℕ := ![(i 0).val % 2, 256 * (i 1).val, 0]
/-- Where a step reads the slot the step before filled. -/
abbrev slotOff (i : grid0.Coords) : Fin 3 → ℕ := ![((i 0).val + 1) % 2, 0, 0]
/-- The column tile's rows of the Gram block that hold its diagonal, the tile's columns of the slot, and the tile's accumulator. -/
abbrev diagOff (i : grid0.Coords) : Fin 3 → ℕ := ![0, 768 * (i 1).val, 0]
abbrev colOff (i : grid0.Coords) : Fin 2 → ℕ := ![0, 768 * (i 1).val]
abbrev tileOff (i : grid0.Coords) : Fin 3 → ℕ := ![(i 1).val, 0, 0]

theorem slotOff_inb (i : grid0.Coords) : ∀ a, slotOff i a + S1x1024x3072.size a ≤ S2x1024x3072.size a := by
  intro a
  have := Nat.mod_lt ((i 0).val + 1) (show 0 < 2 by decide)
  fin_cases a
  · show ((i 0).val + 1) % 2 + 1 ≤ 2; omega
  · show 0 + 1024 ≤ 1024; omega
  · show 0 + 3072 ≤ 3072; omega
theorem diagOff_inb (i : grid0.Coords) : ∀ a, diagOff i a + S1x768x768.size a ≤ S1x3072x768.size a := by
  intro a
  have : (i 1).val < 4 := (i 1).isLt
  fin_cases a
  · show 0 + 1 ≤ 1; omega
  · show 768 * (i 1).val + 768 ≤ 3072; omega
  · show 0 + 768 ≤ 768; omega
theorem colOff_inb (i : grid0.Coords) : ∀ a, colOff i a + S1024x768.size a ≤ S1024x3072.size a := by
  intro a
  have : (i 1).val < 4 := (i 1).isLt
  fin_cases a
  · show 0 + 1024 ≤ 1024; omega
  · show 768 * (i 1).val + 768 ≤ 3072; omega
theorem tileOff_inb (i : grid0.Coords) : ∀ a, tileOff i a + S1x1024x768.size a ≤ S4x1024x768.size a := by
  intro a
  have : (i 1).val < 4 := (i 1).isLt
  fin_cases a
  · show (i 1).val + 1 ≤ 4; omega
  · show 0 + 1024 ≤ 1024; omega
  · show 0 + 768 ≤ 768; omega

theorem off4_eq : ∀ i : grid0.Coords, 0 < (i 0).val → k0_off4 i = slotOff i := by decide +kernel
theorem off5_eq : ∀ i : grid0.Coords, 0 < (i 0).val → k0_off5 i = slotOff i := by decide +kernel
theorem off10_eq : ∀ i : grid0.Coords, 0 < (i 0).val → k0_off10 i = slotOff i := by decide +kernel
theorem off11_eq : ∀ i : grid0.Coords, 0 < (i 0).val → k0_off11 i = slotOff i := by decide +kernel

/-- The 256 rows of codes `X2` dequantised by their scales `X3`, put in this step's slot. -/
def wPut (i : grid0.Coords) (X2 : S1x256x3072.Idx → Elt F .i8) (X3 : S1x256x1.Idx → Elt F .f32) (W : S2x1024x3072.Idx → Elt F .bf16) :
    S2x1024x3072.Idx → Elt F .bf16 := VecWindow.put W (putOff i) S1x256x3072.size (k0_pay14 (F := F) X3 X2)

/-- The slot the step before filled, as a matrix. -/
def slotMat (i : grid0.Coords) (W : S2x1024x3072.Idx → Elt F .bf16) : S1024x3072.Idx → Elt F .bf16 :=
  k0_pay16 (F := F) (VecWindow.window W (slotOff i) S1x1024x3072.size (slotOff_inb i))

/-- The accumulator tile after the step, from the dequantised matrix `M`, the Gram column block `X4` and the tile before it. -/
def accStep (i : grid0.Coords) (X4 : S1x3072x768.Idx → Elt F .bf16) (M : S1024x3072.Idx → Elt F .bf16) (prev : S1x1024x768.Idx → Elt F .f32) :
    S1x1024x768.Idx → Elt F .f32 :=
  k0_pay2 (F := F) (Scalar.remsi (Scalar.subi (BitVec.ofNat 32 (i 0).val) 1#32) 7#32)
    (k0_pay15 (F := F) (VecWindow.window X4 (diagOff i) S1x768x768.size (diagOff_inb i))) M (k0_pay17 (F := F) X4)
    (VecWindow.window M (colOff i) S1024x768.size (colOff_inb i)) prev

/-- The step's accumulator tile in buffer `A`. -/
def tileOf (i : grid0.Coords) (A : S4x1024x768.Idx → Elt F .f32) : S1x1024x768.Idx → Elt F .f32 :=
  VecWindow.window A (tileOff i) S1x1024x768.size (tileOff_inb i)

/-- The accumulators after the step. -/
def aPut (i : grid0.Coords) (T : S1x1024x768.Idx → Elt F .f32) (A : S4x1024x768.Idx → Elt F .f32) : S4x1024x768.Idx → Elt F .f32 :=
  VecWindow.put A (tileOff i) S1x1024x768.size T

theorem tileOf_aPut (i : grid0.Coords) (T : S1x1024x768.Idx → Elt F .f32) (A : S4x1024x768.Idx → Elt F .f32) : tileOf i (aPut i T A) = T :=
  VecWindow.window_put_same _ _ _ _ _

/-! ## Loads and stores of the scratch buffers, by values -/

/-- A block stored at an offset is put there. -/
theorem put_store {S : Shape} {e : EltTy} (m : Memref sig .tc .vmem S e) (f : m.view.ty.Contents (Elt F)) {off off' size : Fin S.rank → ℕ}
    (inb : ∀ a, off a + size a ≤ S.size a) (h : off = off') (w : (Rect.unit (s := S) off size inb).shape.Idx → Elt F e) :
    m.view.read (Elt F) (View.write (Elt F) (m.access (Rect.unit (s := S) off size inb)) f w Finset.univ) = VecWindow.put (m.view.read (Elt F) f) off' size w :=
  View.read_writes_cons_put (Val := Elt F) m.view f inb w [] h

/-- Rows stored into the slot buffer are put there. -/
theorem wb_write (W : S2x1024x3072.Idx → Elt F .bf16) {off off' : Fin 3 → ℕ} (inb : ∀ a, off a + S1x256x3072.size a ≤ S2x1024x3072.size a) (h : off = off')
    (w : S1x256x3072.Idx → Elt F .bf16) :
    View.write (Elt F) (wbM.access (Rect.unit (s := S2x1024x3072) off S1x256x3072.size inb)) W w Finset.univ = VecWindow.put W off' S1x256x3072.size w := by
  have := put_store wbM W inb h w
  rw [View.read_whole, View.read_whole] at this
  exact this

/-- A tile stored into the accumulators is put there. -/
theorem acc_write (A : S4x1024x768.Idx → Elt F .f32) {off off' : Fin 3 → ℕ} (inb : ∀ a, off a + S1x1024x768.size a ≤ S4x1024x768.size a) (h : off = off')
    (w : S1x1024x768.Idx → Elt F .f32) :
    View.write (Elt F) (accM.access (Rect.unit (s := S4x1024x768) off S1x1024x768.size inb)) A w Finset.univ = VecWindow.put A off' S1x1024x768.size w := by
  have := put_store accM A inb h w
  rw [View.read_whole, View.read_whole] at this
  exact this

/-- A tile of the accumulators, loaded. -/
theorem acc_load (A : S4x1024x768.Idx → Elt F .f32) (i : grid0.Coords) {off : Fin 3 → ℕ} (inb : ∀ a, off a + S1x1024x768.size a ≤ S4x1024x768.size a) (h : off = tileOff i) :
    View.readAt (Elt F) accM.view (Rect.unit (s := S4x1024x768) off S1x1024x768.size inb).toLoadRect A = tileOf i A :=
  View.readAt_unit (Val := Elt F) accM.view A inb h (tileOff_inb i)

/-- The slot, loaded, as a matrix. -/
theorem slot_load (W : S2x1024x3072.Idx → Elt F .bf16) (i : grid0.Coords) {off : Fin 3 → ℕ} (inb : ∀ a, off a + S1x1024x3072.size a ≤ S2x1024x3072.size a) (h : off = slotOff i) :
    k0_pay16 (F := F) (View.readAt (Elt F) wbM.view (Rect.unit (s := S2x1024x3072) off S1x1024x3072.size inb).toLoadRect W) = slotMat i W :=
  congrArg (k0_pay16 (F := F)) (View.readAt_unit (Val := Elt F) wbM.view W inb h (slotOff_inb i))

/-- The slot's columns, loaded through the slot's own view. -/
theorem cols_load (W : S2x1024x3072.Idx → Elt F .bf16) (i : grid0.Coords) {off : Fin 3 → ℕ} (inb : ∀ a, off a + S1x1024x3072.size a ≤ S2x1024x3072.size a) (h : off = slotOff i)
    {off2 : Fin 2 → ℕ} (inb2 : ∀ a, off2 a + S1024x768.size a ≤ S1024x3072.size a) (h2 : off2 = colOff i) :
    View.readAt (Elt F) ((wbM.slice (Rect.unit (s := S2x1024x3072) off S1x1024x3072.size inb) (fun _ => rfl)).squeeze S1024x3072 squeezes_S1x1024x3072_S1024x3072).view
        (Rect.unit (s := S1024x3072) off2 S1024x768.size inb2).toLoadRect W
      = VecWindow.window (slotMat i W) (colOff i) S1024x768.size (colOff_inb i) := by
  subst h; subst h2; rfl

/-- The diagonal square of the Gram block, loaded. -/
theorem diag_load (m : Memref sig .tc .vmem S1x3072x768 .bf16) (f : m.view.ty.Contents (Elt F)) (X : S1x3072x768.Idx → Elt F .bf16) (hX : m.view.read (Elt F) f = X)
    (i : grid0.Coords) {off : Fin 3 → ℕ} (inb : ∀ a, off a + S1x768x768.size a ≤ S1x3072x768.size a) (h : off = diagOff i) :
    View.readAt (Elt F) m.view (Rect.unit (s := S1x3072x768) off S1x768x768.size inb).toLoadRect f = VecWindow.window X (diagOff i) S1x768x768.size (diagOff_inb i) := by
  subst hX; exact View.readAt_unit (Val := Elt F) m.view f inb h (diagOff_inb i)

/-- A whole block, loaded. -/
theorem full_load {S : Shape} {e : EltTy} (m : Memref sig .tc .vmem S e) (f : m.view.ty.Contents (Elt F)) (X : S.Idx → Elt F e) (hX : m.view.read (Elt F) f = X)
    {off : Fin S.rank → ℕ} (inb : ∀ a, off a + S.size a ≤ S.size a) :
    View.readAt (Elt F) m.view (Rect.unit (s := S) off S.size inb).toLoadRect f = X := by
  subst hX; exact View.readAt_full (Val := Elt F) m.view f inb

/-- A whole block, stored. -/
theorem full_store {S : Shape} {e : EltTy} (m : Memref sig .tc .vmem S e) (f : m.view.ty.Contents (Elt F))
    {off : Fin S.rank → ℕ} (inb : ∀ a, off a + S.size a ≤ S.size a) (w w' : S.Idx → Elt F e) (hw : w = w') :
    m.view.read (Elt F) (View.write (Elt F) (m.access (Rect.unit (s := S) off S.size inb)) f w Finset.univ) = w' := by
  subst hw; exact View.read_writes_full (Val := Elt F) m.view f inb w []

/-! ## The cases -/

/-- The first step: dequantise into the slot, nothing else. -/
theorem run_first (c : Dev nD) (i : grid0.Coords)
    (arg2 : Memref sig .tc .vmem S1x256x3072 .i8) (h2 : arg2.IsWhole) (arg3 : Memref sig .tc .vmem S1x256x1 .f32) (h3 : arg3.IsWhole)
    (arg4 : Memref sig .tc .vmem S1x3072x768 .bf16) (h4 : arg4.IsWhole) (arg5 : Memref sig .tc .vmem S1024x768 .bf16) (h5 : arg5.IsWhole)
    (arg6 : Memref sig .tc .vmem S1024x768 .bf16) (h6 : arg6.IsWhole) (arg7 : Memref sig .tc .vmem S1024x768 .bf16) (h7 : arg7.IsWhole)
    (hc1 : k0_cond1 i = 1#1) (hc2 : ¬ k0_cond2 i = 1#1) (hc4 : ¬ k0_cond4 i = 1#1)
    (X2 : S1x256x3072.Idx → Elt F .i8) (X3 : S1x256x1.Idx → Elt F .f32)
    (W : S2x1024x3072.Idx → Elt F .bf16) (Q : PUnit → sProp 𝕄) :
    iprop(owns (c : Thread nD τ) arg2 fullShare X2 ∗ owns (c : Thread nD τ) arg3 fullShare X3 ∗ wbPt c W
      ∗ (iprop(owns (c : Thread nD τ) arg2 fullShare X2 ∗ owns (c : Thread nD τ) arg3 fullShare X3 ∗ wbPt c (wPut i X2 X3 W)) -∗ Q ⟨⟩))
    ⊢ wp frame (wpE (defs₀ (F := F)) Variants.none c none) Set.univ
        (cc0_rhs i arg2 h2 arg3 h3 arg4 h4 arg5 h5 arg6 h6 arg7 h7 wbM (Memref.isWhole_whole _) accM (Memref.isWhole_whole _)) Q := by
  simp only [cc0_rhs_eq_skeleton]; unfold cc0_rhs_skel
  unfold owns
  iintro ⟨⟨%f2, %e2, H2⟩, ⟨%f3, %e3, H3⟩, H8, Hk⟩
  rw [dif_pos hc1, dif_neg hc2, dif_neg hc4]
  simp only [bind_assoc, Prog.bind_lift, Prog.pure_eq_ret, Prog.bind_ret, Prog.bind_op]
  sl_steps
  iapply Hk
  isplitl [H2]
  · iexists f2; isplit; · ipureintro; exact e2
    iexact H2
  isplitl [H3]
  · iexists f3; isplit; · ipureintro; exact e3
    iexact H3
  istop
  refine Entails.of_eq (congrArg (wbPt (F := F) c) ?_)
  refine (wb_write W _ (k0_off1_eq i) _).trans ?_
  exact congrArg (VecWindow.put W (putOff i) S1x256x3072.size) (congrArg₂ (k0_pay1 (F := F)) (full_load arg3 f3 X3 e3 _) (full_load arg2 f2 X2 e2 _))

/-- A middle step without the output store: dequantise into this step's slot, accumulate from the slot before. -/
theorem run_mid (c : Dev nD) (i : grid0.Coords)
    (arg2 : Memref sig .tc .vmem S1x256x3072 .i8) (h2 : arg2.IsWhole) (arg3 : Memref sig .tc .vmem S1x256x1 .f32) (h3 : arg3.IsWhole)
    (arg4 : Memref sig .tc .vmem S1x3072x768 .bf16) (h4 : arg4.IsWhole) (arg5 : Memref sig .tc .vmem S1024x768 .bf16) (h5 : arg5.IsWhole)
    (arg6 : Memref sig .tc .vmem S1024x768 .bf16) (h6 : arg6.IsWhole) (arg7 : Memref sig .tc .vmem S1024x768 .bf16) (h7 : arg7.IsWhole)
    (hpos : 0 < (i 0).val) (hc1 : ¬ k0_cond1 i = 1#1) (hc2 : k0_cond2 i = 1#1) (hc3 : ¬ k0_cond3 i = 1#1) (hc4 : ¬ k0_cond4 i = 1#1)
    (X2 : S1x256x3072.Idx → Elt F .i8) (X3 : S1x256x1.Idx → Elt F .f32) (X4 : S1x3072x768.Idx → Elt F .bf16)
    (W : S2x1024x3072.Idx → Elt F .bf16) (A : S4x1024x768.Idx → Elt F .f32) (Q : PUnit → sProp 𝕄) :
    iprop(owns (c : Thread nD τ) arg2 fullShare X2 ∗ owns (c : Thread nD τ) arg3 fullShare X3 ∗ owns (c : Thread nD τ) arg4 fullShare X4 ∗ wbPt c W ∗ accPt c A
      ∗ (iprop(owns (c : Thread nD τ) arg2 fullShare X2 ∗ owns (c : Thread nD τ) arg3 fullShare X3 ∗ owns (c : Thread nD τ) arg4 fullShare X4 ∗ wbPt c (wPut i X2 X3 W) ∗ accPt c (aPut i (accStep i X4 (slotMat i (wPut i X2 X3 W)) (tileOf i A)) A)) -∗ Q ⟨⟩))
    ⊢ wp frame (wpE (defs₀ (F := F)) Variants.none c none) Set.univ
        (cc0_rhs i arg2 h2 arg3 h3 arg4 h4 arg5 h5 arg6 h6 arg7 h7 wbM (Memref.isWhole_whole _) accM (Memref.isWhole_whole _)) Q := by
  simp only [cc0_rhs_eq_skeleton]; unfold cc0_rhs_skel
  unfold owns
  iintro ⟨⟨%f2, %e2, H2⟩, ⟨%f3, %e3, H3⟩, ⟨%f4, %e4, H4⟩, H8, H9, Hk⟩
  rw [dif_neg hc1, dif_pos hc2, dif_neg hc4]
  simp only [k0_part1_eq_skeleton]; unfold k0_part1_skel
  simp only [bind_assoc, Prog.bind_lift, Prog.pure_eq_ret, Prog.bind_ret, Prog.bind_op]
  rw [dif_neg hc3]
  sl_steps
  iapply Hk
  isplitl [H2]
  · iexists f2; isplit; · ipureintro; exact e2
    iexact H2
  isplitl [H3]
  · iexists f3; isplit; · ipureintro; exact e3
    iexact H3
  isplitl [H4]
  · iexists f4; isplit; · ipureintro; exact e4
    iexact H4
  have hW : VecWindow.put W (putOff i) S1x256x3072.size (k0_pay14 (F := F) (View.readAt (Elt F) arg3.view (Rect.unit (s := S1x256x1) ![0, 0, 0] S1x256x1.size inb_S1x256x1_S1x256x1_0_0_0).toLoadRect f3)
      (View.readAt (Elt F) arg2.view (Rect.unit (s := S1x256x3072) ![0, 0, 0] S1x256x3072.size inb_S1x256x3072_S1x256x3072_0_0_0).toLoadRect f2)) = wPut i X2 X3 W :=
    congrArg (VecWindow.put W (putOff i) S1x256x3072.size) (congrArg₂ (k0_pay14 (F := F)) (full_load arg3 f3 X3 e3 _) (full_load arg2 f2 X2 e2 _))
  have hT : k0_pay2 (F := F) (Scalar.remsi (Scalar.subi (BitVec.ofNat 32 (i 0).val) 1#32) 7#32)
      (k0_pay15 (View.readAt (Elt F) arg4.view (Rect.unit (s := S1x3072x768) (k0_off3 i) S1x768x768.size (k0_off3_inb i hc2)).toLoadRect f4))
      (k0_pay16 (View.readAt (Elt F) wbM.view (Rect.unit (s := S2x1024x3072) (k0_off4 i) S1x1024x3072.size (k0_off4_inb i hc2)).toLoadRect (wPut i X2 X3 W)))
      (k0_pay17 (View.readAt (Elt F) arg4.view (Rect.unit (s := S1x3072x768) ![0, 0, 0] S1x3072x768.size inb_S1x3072x768_S1x3072x768_0_0_0).toLoadRect f4))
      (View.readAt (Elt F) ((wbM.slice (Rect.unit (s := S2x1024x3072) (k0_off5 i) S1x1024x3072.size (k0_off5_inb i hc2)) (fun _ => rfl)).squeeze S1024x3072 squeezes_S1x1024x3072_S1024x3072).view
        (Rect.unit (s := S1024x3072) (k0_off6 i) S1024x768.size (k0_off6_inb i hc2)).toLoadRect (wPut i X2 X3 W))
      (View.readAt (Elt F) accM.view (Rect.unit (s := S4x1024x768) (k0_off7 i) S1x1024x768.size (k0_off7_inb i hc2)).toLoadRect A)
      = (accStep i X4 (slotMat i (wPut i X2 X3 W)) (tileOf i A)) := by
    rw [diag_load arg4 f4 X4 e4 i _ (k0_off3_eq i), slot_load (wPut i X2 X3 W) i _ (off4_eq i hpos), full_load arg4 f4 X4 e4,
      cols_load (wPut i X2 X3 W) i _ (off5_eq i hpos) _ (k0_off6_eq i), acc_load A i _ (k0_off7_eq i)]
    rfl
  istop
  simp only [wb_write W _ (k0_off2_eq i), hW]
  simp only [hT, acc_write A _ (k0_off7_eq i)]
  exact Entails.rfl

/-- A middle step with the output store: as `run_mid`, and the finished tile, split in three, goes to the three output blocks. -/
theorem run_midflush (c : Dev nD) (i : grid0.Coords)
    (arg2 : Memref sig .tc .vmem S1x256x3072 .i8) (h2 : arg2.IsWhole) (arg3 : Memref sig .tc .vmem S1x256x1 .f32) (h3 : arg3.IsWhole)
    (arg4 : Memref sig .tc .vmem S1x3072x768 .bf16) (h4 : arg4.IsWhole) (arg5 : Memref sig .tc .vmem S1024x768 .bf16) (h5 : arg5.IsWhole)
    (arg6 : Memref sig .tc .vmem S1024x768 .bf16) (h6 : arg6.IsWhole) (arg7 : Memref sig .tc .vmem S1024x768 .bf16) (h7 : arg7.IsWhole)
    (hpos : 0 < (i 0).val) (hc1 : ¬ k0_cond1 i = 1#1) (hc2 : k0_cond2 i = 1#1) (hc3 : k0_cond3 i = 1#1) (hc4 : ¬ k0_cond4 i = 1#1)
    (X2 : S1x256x3072.Idx → Elt F .i8) (X3 : S1x256x1.Idx → Elt F .f32) (X4 : S1x3072x768.Idx → Elt F .bf16) (X5 : S1024x768.Idx → Elt F .bf16) (X6 : S1024x768.Idx → Elt F .bf16) (X7 : S1024x768.Idx → Elt F .bf16)
    (W : S2x1024x3072.Idx → Elt F .bf16) (A : S4x1024x768.Idx → Elt F .f32) (Q : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ wbPt c W ∗ accPt c A
      ∗ (iprop(owns (c : Thread nD τ) arg2 fullShare X2 ∗ owns (c : Thread nD τ) arg3 fullShare X3 ∗ owns (c : Thread nD τ) arg4 fullShare X4 ∗ owns (c : Thread nD τ) arg5 fullShare (k0_pay4 (F := F) (accStep i X4 (slotMat i (wPut i X2 X3 W)) (tileOf i A))) ∗ owns (c : Thread nD τ) arg6 fullShare (k0_pay6 (F := F) (accStep i X4 (slotMat i (wPut i X2 X3 W)) (tileOf i A))) ∗ owns (c : Thread nD τ) arg7 fullShare (k0_pay7 (F := F) (accStep i X4 (slotMat i (wPut i X2 X3 W)) (tileOf i A))) ∗ wbPt c (wPut i X2 X3 W) ∗ accPt c (aPut i (accStep i X4 (slotMat i (wPut i X2 X3 W)) (tileOf i A)) A)) -∗ Q ⟨⟩))
    ⊢ wp frame (wpE (defs₀ (F := F)) Variants.none c none) Set.univ
        (cc0_rhs i arg2 h2 arg3 h3 arg4 h4 arg5 h5 arg6 h6 arg7 h7 wbM (Memref.isWhole_whole _) accM (Memref.isWhole_whole _)) Q := by
  simp only [cc0_rhs_eq_skeleton]; unfold cc0_rhs_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, H8, H9, Hk⟩
  rw [dif_neg hc1, dif_pos hc2, dif_neg hc4]
  simp only [k0_part1_eq_skeleton]; unfold k0_part1_skel
  simp only [bind_assoc, Prog.bind_lift, Prog.pure_eq_ret, Prog.bind_ret, Prog.bind_op]
  rw [dif_pos hc3]
  sl_steps
  iapply Hk
  isplitl [H2]
  · iexists f2; isplit; · ipureintro; exact e2
    iexact H2
  isplitl [H3]
  · iexists f3; isplit; · ipureintro; exact e3
    iexact H3
  isplitl [H4]
  · iexists f4; isplit; · ipureintro; exact e4
    iexact H4
  have hW : VecWindow.put W (putOff i) S1x256x3072.size (k0_pay14 (F := F) (View.readAt (Elt F) arg3.view (Rect.unit (s := S1x256x1) ![0, 0, 0] S1x256x1.size inb_S1x256x1_S1x256x1_0_0_0).toLoadRect f3)
      (View.readAt (Elt F) arg2.view (Rect.unit (s := S1x256x3072) ![0, 0, 0] S1x256x3072.size inb_S1x256x3072_S1x256x3072_0_0_0).toLoadRect f2)) = wPut i X2 X3 W :=
    congrArg (VecWindow.put W (putOff i) S1x256x3072.size) (congrArg₂ (k0_pay14 (F := F)) (full_load arg3 f3 X3 e3 _) (full_load arg2 f2 X2 e2 _))
  have hT : k0_pay2 (F := F) (Scalar.remsi (Scalar.subi (BitVec.ofNat 32 (i 0).val) 1#32) 7#32)
      (k0_pay15 (View.readAt (Elt F) arg4.view (Rect.unit (s := S1x3072x768) (k0_off3 i) S1x768x768.size (k0_off3_inb i hc2)).toLoadRect f4))
      (k0_pay16 (View.readAt (Elt F) wbM.view (Rect.unit (s := S2x1024x3072) (k0_off4 i) S1x1024x3072.size (k0_off4_inb i hc2)).toLoadRect (wPut i X2 X3 W)))
      (k0_pay17 (View.readAt (Elt F) arg4.view (Rect.unit (s := S1x3072x768) ![0, 0, 0] S1x3072x768.size inb_S1x3072x768_S1x3072x768_0_0_0).toLoadRect f4))
      (View.readAt (Elt F) ((wbM.slice (Rect.unit (s := S2x1024x3072) (k0_off5 i) S1x1024x3072.size (k0_off5_inb i hc2)) (fun _ => rfl)).squeeze S1024x3072 squeezes_S1x1024x3072_S1024x3072).view
        (Rect.unit (s := S1024x3072) (k0_off6 i) S1024x768.size (k0_off6_inb i hc2)).toLoadRect (wPut i X2 X3 W))
      (View.readAt (Elt F) accM.view (Rect.unit (s := S4x1024x768) (k0_off7 i) S1x1024x768.size (k0_off7_inb i hc2)).toLoadRect A)
      = (accStep i X4 (slotMat i (wPut i X2 X3 W)) (tileOf i A)) := by
    rw [diag_load arg4 f4 X4 e4 i _ (k0_off3_eq i), slot_load (wPut i X2 X3 W) i _ (off4_eq i hpos), full_load arg4 f4 X4 e4,
      cols_load (wPut i X2 X3 W) i _ (off5_eq i hpos) _ (k0_off6_eq i), acc_load A i _ (k0_off7_eq i)]
    rfl
  isplitl [H5]
  · iexists _; isplit
    rotate_left
    · iexact H5
    · ipureintro
      refine full_store arg5 f5 _ _ _ (congrArg (k0_pay4 (F := F)) ?_)
      simp only [wb_write W _ (k0_off2_eq i), hW]
      simp only [hT, acc_write A _ (k0_off7_eq i)]
      exact (acc_load _ i _ (k0_off8_eq i)).trans (tileOf_aPut i _ A)
  isplitl [H6]
  · iexists _; isplit
    rotate_left
    · iexact H6
    · ipureintro
      refine full_store arg6 f6 _ _ _ (congrArg (k0_pay6 (F := F)) ?_)
      simp only [wb_write W _ (k0_off2_eq i), hW]
      simp only [hT, acc_write A _ (k0_off7_eq i)]
      exact (acc_load _ i _ (k0_off8_eq i)).trans (tileOf_aPut i _ A)
  isplitl [H7]
  · iexists _; isplit
    rotate_left
    · iexact H7
    · ipureintro
      refine full_store arg7 f7 _ _ _ (congrArg (k0_pay7 (F := F)) ?_)
      simp only [wb_write W _ (k0_off2_eq i), hW]
      simp only [hT, acc_write A _ (k0_off7_eq i)]
      exact (acc_load _ i _ (k0_off8_eq i)).trans (tileOf_aPut i _ A)
  istop
  simp only [wb_write W _ (k0_off2_eq i), hW]
  simp only [hT, acc_write A _ (k0_off7_eq i)]
  exact Entails.rfl

/-- The last step: accumulate from the slot before and store the finished tile, split in three, to the three output blocks. -/
theorem run_last (c : Dev nD) (i : grid0.Coords)
    (arg2 : Memref sig .tc .vmem S1x256x3072 .i8) (h2 : arg2.IsWhole) (arg3 : Memref sig .tc .vmem S1x256x1 .f32) (h3 : arg3.IsWhole)
    (arg4 : Memref sig .tc .vmem S1x3072x768 .bf16) (h4 : arg4.IsWhole) (arg5 : Memref sig .tc .vmem S1024x768 .bf16) (h5 : arg5.IsWhole)
    (arg6 : Memref sig .tc .vmem S1024x768 .bf16) (h6 : arg6.IsWhole) (arg7 : Memref sig .tc .vmem S1024x768 .bf16) (h7 : arg7.IsWhole)
    (hpos : 0 < (i 0).val) (hc1 : ¬ k0_cond1 i = 1#1) (hc2 : ¬ k0_cond2 i = 1#1) (hc4 : k0_cond4 i = 1#1) (hc5 : k0_cond5 i = 1#1)
    (X4 : S1x3072x768.Idx → Elt F .bf16) (X5 : S1024x768.Idx → Elt F .bf16) (X6 : S1024x768.Idx → Elt F .bf16) (X7 : S1024x768.Idx → Elt F .bf16)
    (W : S2x1024x3072.Idx → Elt F .bf16) (A : S4x1024x768.Idx → Elt F .f32) (Q : PUnit → sProp 𝕄) :
    iprop(owns (c : Thread nD τ) arg4 fullShare X4 ∗ owns (c : Thread nD τ) arg5 fullShare X5 ∗ owns (c : Thread nD τ) arg6 fullShare X6 ∗ owns (c : Thread nD τ) arg7 fullShare X7 ∗ wbPt c W ∗ accPt c A
      ∗ (iprop(owns (c : Thread nD τ) arg4 fullShare X4 ∗ owns (c : Thread nD τ) arg5 fullShare (k0_pay4 (F := F) (accStep i X4 (slotMat i W) (tileOf i A))) ∗ owns (c : Thread nD τ) arg6 fullShare (k0_pay6 (F := F) (accStep i X4 (slotMat i W) (tileOf i A))) ∗ owns (c : Thread nD τ) arg7 fullShare (k0_pay7 (F := F) (accStep i X4 (slotMat i W) (tileOf i A))) ∗ wbPt c W ∗ accPt c (aPut i (accStep i X4 (slotMat i W) (tileOf i A)) A)) -∗ Q ⟨⟩))
    ⊢ wp frame (wpE (defs₀ (F := F)) Variants.none c none) Set.univ
        (cc0_rhs i arg2 h2 arg3 h3 arg4 h4 arg5 h5 arg6 h6 arg7 h7 wbM (Memref.isWhole_whole _) accM (Memref.isWhole_whole _)) Q := by
  simp only [cc0_rhs_eq_skeleton]; unfold cc0_rhs_skel
  unfold owns
  iintro ⟨⟨%f4, %e4, H4⟩, ⟨%f5, %e5, H5⟩, ⟨%f6, %e6, H6⟩, ⟨%f7, %e7, H7⟩, H8, H9, Hk⟩
  rw [dif_neg hc1, dif_neg hc2, dif_pos hc4]
  simp only [k0_part2_eq_skeleton]; unfold k0_part2_skel
  simp only [bind_assoc, Prog.bind_lift, Prog.pure_eq_ret, Prog.bind_ret, Prog.bind_op]
  rw [dif_pos hc5]
  sl_steps
  iapply Hk
  isplitl [H4]
  · iexists f4; isplit; · ipureintro; exact e4
    iexact H4
  have hT : k0_pay8 (F := F) (k0_pay18 (View.readAt (Elt F) arg4.view (Rect.unit (s := S1x3072x768) (k0_off9 i) S1x768x768.size (k0_off9_inb i hc4)).toLoadRect f4)
      (View.readAt (Elt F) wbM.view (Rect.unit (s := S2x1024x3072) (k0_off10 i) S1x1024x3072.size (k0_off10_inb i hc4)).toLoadRect W)
      (View.readAt (Elt F) arg4.view (Rect.unit (s := S1x3072x768) ![0, 0, 0] S1x3072x768.size inb_S1x3072x768_S1x3072x768_0_0_0).toLoadRect f4)
      (View.readAt (Elt F) ((wbM.slice (Rect.unit (s := S2x1024x3072) (k0_off11 i) S1x1024x3072.size (k0_off11_inb i hc4)) (fun _ => rfl)).squeeze S1024x3072 squeezes_S1x1024x3072_S1024x3072).view
        (Rect.unit (s := S1024x3072) (k0_off12 i) S1024x768.size (k0_off12_inb i hc4)).toLoadRect W))
      (Scalar.cmpi .eq (Scalar.remsi (Scalar.subi (BitVec.ofNat 32 (i 0).val) 1#32) 7#32) 0#32)
      (View.readAt (Elt F) accM.view (Rect.unit (s := S4x1024x768) (k0_off13 i) S1x1024x768.size (k0_off13_inb i hc4)).toLoadRect A)
      = (accStep i X4 (slotMat i W) (tileOf i A)) := by
    rw [diag_load arg4 f4 X4 e4 i _ (k0_off9_eq i), full_load arg4 f4 X4 e4,
      cols_load W i _ (off11_eq i hpos) _ (k0_off12_eq i), acc_load A i _ (k0_off13_eq i),
      View.readAt_unit (Val := Elt F) wbM.view W _ (off10_eq i hpos) (slotOff_inb i)]
    rfl
  isplitl [H5]
  · iexists _; isplit
    rotate_left
    · iexact H5
    · ipureintro
      refine full_store arg5 f5 _ _ _ (congrArg (k0_pay10 (F := F)) ?_)
      simp only [hT, acc_write A _ (k0_off13_eq i)]
      exact (acc_load _ i _ (k0_off14_eq i)).trans (tileOf_aPut i _ A)
  isplitl [H6]
  · iexists _; isplit
    rotate_left
    · iexact H6
    · ipureintro
      refine full_store arg6 f6 _ _ _ (congrArg (k0_pay12 (F := F)) ?_)
      simp only [hT, acc_write A _ (k0_off13_eq i)]
      exact (acc_load _ i _ (k0_off14_eq i)).trans (tileOf_aPut i _ A)
  isplitl [H7]
  · iexists _; isplit
    rotate_left
    · iexact H7
    · ipureintro
      refine full_store arg7 f7 _ _ _ (congrArg (k0_pay13 (F := F)) ?_)
      simp only [hT, acc_write A _ (k0_off13_eq i)]
      exact (acc_load _ i _ (k0_off14_eq i)).trans (tileOf_aPut i _ A)
  istop
  simp only [hT, acc_write A _ (k0_off13_eq i)]
  exact Entails.rfl

end Cert.Kernel.Hand

end
-- ==== Proof.K.Spec.lean ====
/-
  What the first region's two scratch buffers hold between grid points, in closed form: point `n = 4 t + i` is row/model step
  `t`, column tile `i`. Step `t` fills slot `t % 2` with 1024 dequantised rows, a quarter per tile; step `t + 1` reads that
  slot whole and adds one model's product into each tile's accumulator.
-/
module

public import proofs.«01_k».proof.Proof.K.Body
public import proofs.«01_k».proof.Proof.Gen.Kernel.Launch
public import Idealize.ShloMosaic.Lib.ValueIdxCore
public import Idealize.ShloMosaic.Lib.ValueLayout

@[expose] public section

set_option maxRecDepth 16384

noncomputable section

namespace Cert.Kernel.Hand

open Cert.Kernel Cert.Kernel.Gen
open Idealize.ShloMosaic Idealize.ShloMosaic.ValueIdx

variable {F : FTy → Type} [FloatOps F]

/-! ## Points and conditions -/

/-- A grid point's two coordinates. -/
theorem coords_val : ∀ t : Fin grid0.N, ((grid0.coords t) 0).val = t.val / 4 ∧ ((grid0.coords t) 1).val = t.val % 4 := by decide +kernel

theorem cond1_iff : ∀ i : grid0.Coords, k0_cond1 i = 1#1 ↔ (i 0).val = 0 := by decide +kernel
theorem cond2_iff : ∀ i : grid0.Coords, k0_cond2 i = 1#1 ↔ (0 < (i 0).val ∧ (i 0).val < 84) := by decide +kernel
theorem cond3_iff : ∀ i : grid0.Coords, 0 < (i 0).val → (k0_cond3 i = 1#1 ↔ (i 0).val % 7 = 0) := by decide +kernel
theorem cond4_iff : ∀ i : grid0.Coords, k0_cond4 i = 1#1 ↔ (i 0).val = 84 := by decide +kernel
theorem cond5_iff : ∀ i : grid0.Coords, (i 0).val = 84 → k0_cond5 i = 1#1 := by decide +kernel

/-- The first model of a row block: the accumulator read is not used. -/
theorem first_model : ∀ i : grid0.Coords, 0 < (i 0).val → ((i 0).val - 1) % 7 = 0 →
    Scalar.cmpi .eq (Scalar.remsi (Scalar.subi (BitVec.ofNat 32 (i 0).val) 1#32) 7#32) 0#32 = 1#1 := by decide +kernel

/-- Linear point `n` of the grid. -/
def pt (n : ℕ) : Fin grid0.N := ⟨n % 340, Nat.lt_of_lt_of_eq (Nat.mod_lt _ (by decide)) N_0.symm⟩

theorem pt_val (t : Fin grid0.N) : pt t.val = t := Fin.ext (Nat.mod_eq_of_lt (Nat.lt_of_lt_of_eq t.isLt N_0))

/-! ## The values -/

section Values

variable (B0 : Fin grid0.N → S1x256x3072.Idx → Elt F .i8) (B1 : Fin grid0.N → S1x256x1.Idx → Elt F .f32)
  (B2 : Fin grid0.N → S1x3072x768.Idx → Elt F .bf16)

/-- The 256 rows dequantised at point `n`. -/
def chunk (n : ℕ) : S1x256x3072.Idx → Elt F .bf16 := k0_pay14 (F := F) (B1 (pt n)) (B0 (pt n))

/-- Row `r`, column `k` of the 1024 rows that step `t` dequantises. -/
def wbAt (t : ℕ) (r : Fin 1024) (k : Fin 3072) : Elt F .bf16 :=
  chunk B0 B1 (4 * t + r.val / 256) (ix3 (0 : Fin 1) (⟨r.val % 256, Nat.mod_lt _ (by decide)⟩ : Fin 256) k)

/-- The 1024 rows that step `t` dequantises. -/
def wbMat (t : ℕ) : S1024x3072.Idx → Elt F .bf16 := fun j => wbAt B0 B1 t (j 0) (j 1)

/-- The accumulator of column tile `i` after step `t`. -/
def accV : ℕ → ℕ → S1x1024x768.Idx → Elt F .f32
  | 0, _ => fun _ => Scalar.ofBits .f32 0#32
  | t + 1, i => accStep (grid0.coords (pt (4 * (t + 1) + i))) (B2 (pt (4 * (t + 1) + i))) (wbMat B0 B1 t) (accV t i)

end Values

/-! ## The invariant -/

/-- Tile `k` of the accumulators. -/
def tileAt (k : Fin 4) (A : S4x1024x768.Idx → Elt F .f32) : S1x1024x768.Idx → Elt F .f32 := fun y => A (ix3 k (y 1) (y 2))

theorem tileOf_eq (i : grid0.Coords) (A : S4x1024x768.Idx → Elt F .f32) : tileOf i A = tileAt (i 1) A := by
  funext y
  refine congrArg A (funext fun a => Fin.ext ?_)
  have h0 : (y 0).val < 1 := (y 0).isLt
  match a with
  | ⟨0, _⟩ => show (i 1).val + 1 * (y 0).val = (i 1).val; omega
  | ⟨1, _⟩ => show 0 + 1 * (y 1).val = (y 1).val; omega
  | ⟨2, _⟩ => show 0 + 1 * (y 2).val = (y 2).val; omega

theorem tileAt_aPut_same (i : grid0.Coords) (T : S1x1024x768.Idx → Elt F .f32) (A : S4x1024x768.Idx → Elt F .f32) : tileAt (i 1) (aPut i T A) = T := by
  rw [← tileOf_eq]; exact tileOf_aPut i T A

theorem tileAt_aPut_ne (i : grid0.Coords) (k : Fin 4) (hk : k ≠ i 1) (T : S1x1024x768.Idx → Elt F .f32) (A : S4x1024x768.Idx → Elt F .f32) :
    tileAt k (aPut i T A) = tileAt k A := by
  funext y
  show (VecWindow.put A (tileOff i) S1x1024x768.size T) (ix3 k (y 1) (y 2)) = _
  unfold VecWindow.put
  rw [dif_neg]
  · rfl
  · intro h
    have h0 := h 0
    have e1 : (i 1).val ≤ k.val := h0.1
    have e2 : k.val < (i 1).val + 1 := h0.2
    exact hk (Fin.ext (by omega))

section Inv

variable (B0 : Fin grid0.N → S1x256x3072.Idx → Elt F .i8) (B1 : Fin grid0.N → S1x256x1.Idx → Elt F .f32)
  (B2 : Fin grid0.N → S1x3072x768.Idx → Elt F .bf16)

/-- The first `q` rows of slot `s` are those that step `t` dequantises. -/
def SlotIs (s t q : ℕ) (W : S2x1024x3072.Idx → Elt F .bf16) : Prop :=
  ∀ y : S2x1024x3072.Idx, (y 0).val = s → (y 1).val < q → W y = wbAt B0 B1 t (y 1) (y 2)

/-- What the slots hold before point `n = 4 t + i`: this step's slot the quarters written so far, the other slot the whole of the step before. -/
structure InvW (n : ℕ) (W : S2x1024x3072.Idx → Elt F .bf16) : Prop where
  cur : n / 4 < 84 → SlotIs B0 B1 ((n / 4) % 2) (n / 4) (256 * (n % 4)) W
  prev : 1 ≤ n / 4 → n / 4 ≤ 84 → SlotIs B0 B1 ((n / 4 + 1) % 2) (n / 4 - 1) 1024 W

/-- What the accumulators hold before point `n = 4 t + i`: the tiles below `i` after step `t`, the others after step `t - 1`. -/
structure InvA (n : ℕ) (A : S4x1024x768.Idx → Elt F .f32) : Prop where
  done : 1 ≤ n / 4 → ∀ k : Fin 4, k.val < n % 4 → tileAt k A = accV B0 B1 B2 (n / 4) k.val
  todo : 2 ≤ n / 4 → ∀ k : Fin 4, n % 4 ≤ k.val → tileAt k A = accV B0 B1 B2 (n / 4 - 1) k.val

theorem invW_zero (W : S2x1024x3072.Idx → Elt F .bf16) : InvW B0 B1 0 W :=
  ⟨fun _ y _ h => absurd h (by simp), fun h => absurd h (by decide)⟩

theorem invA_zero (A : S4x1024x768.Idx → Elt F .f32) : InvA B0 B1 B2 0 A :=
  ⟨fun h => absurd h (by decide), fun h => absurd h (by decide)⟩

variable {B0 B1 B2}

/-- A slot that holds all rows of a step reads as that step's matrix. -/
theorem slotMat_eq (i : grid0.Coords) (t : ℕ) (W : S2x1024x3072.Idx → Elt F .bf16) (h : SlotIs B0 B1 (((i 0).val + 1) % 2) t 1024 W) :
    slotMat i W = wbMat B0 B1 t := by
  funext j
  obtain ⟨a, b, rfl⟩ : ∃ a b, j = ix2 a b := ⟨_, _, eq_ix2 j⟩
  refine (shapeCast_1ab_ab_apply (VecWindow.window W (slotOff i) S1x1024x3072.size (slotOff_inb i)) _ a b).trans ?_
  unfold VecWindow.window
  refine (h _ (by show ((i 0).val + 1) % 2 + 1 * 0 = _; omega) (Fin.isLt _)).trans ?_
  refine congrArg₂ (wbAt B0 B1 t) (Fin.ext ?_) (Fin.ext ?_)
  · show 0 + 1 * a.val = a.val; omega
  · show 0 + 1 * b.val = b.val; omega

/-- The write at a point keeps the other slot. -/
theorem prev_put {t : Fin grid0.N} {W : S2x1024x3072.Idx → Elt F .bf16} (X2 : S1x256x3072.Idx → Elt F .i8) (X3 : S1x256x1.Idx → Elt F .f32) {u q : ℕ}
    (h : SlotIs B0 B1 ((t.val / 4 + 1) % 2) u q W) : SlotIs B0 B1 ((t.val / 4 + 1) % 2) u q (wPut (grid0.coords t) X2 X3 W) := by
  intro y h0 h1
  unfold wPut VecWindow.put
  rw [dif_neg]
  · exact h y h0 h1
  · intro hh
    have h3 := hh 0
    have e1 : ((grid0.coords t) 0).val % 2 ≤ (y 0).val := h3.1
    have e2 : (y 0).val < ((grid0.coords t) 0).val % 2 + 1 := h3.2
    have := (coords_val t).1
    omega

/-- The write at a point adds its quarter to the current slot. -/
theorem cur_put {t : Fin grid0.N} {W : S2x1024x3072.Idx → Elt F .bf16}
    (h : SlotIs B0 B1 ((t.val / 4) % 2) (t.val / 4) (256 * (t.val % 4)) W) :
    SlotIs B0 B1 ((t.val / 4) % 2) (t.val / 4) (256 * (t.val % 4) + 256) (wPut (grid0.coords t) (B0 t) (B1 t) W) := by
  intro y h0 h1
  have c0 := (coords_val t).1
  have c1 := (coords_val t).2
  have y2 : (y 2).val < 3072 := (y 2).isLt
  unfold wPut VecWindow.put
  by_cases hlt : (y 1).val < 256 * (t.val % 4)
  · rw [dif_neg]
    · exact h y h0 hlt
    · intro hh
      have h3 := (hh 1).1
      have e1 : 256 * ((grid0.coords t) 1).val ≤ (y 1).val := h3
      omega
  · have hh : ∀ a, putOff (grid0.coords t) a ≤ (y a).val ∧ (y a).val < putOff (grid0.coords t) a + S1x256x3072.size a := by
      intro a
      match a with
      | ⟨0, _⟩ => show ((grid0.coords t) 0).val % 2 ≤ (y 0).val ∧ (y 0).val < ((grid0.coords t) 0).val % 2 + 1; omega
      | ⟨1, _⟩ => show 256 * ((grid0.coords t) 1).val ≤ (y 1).val ∧ (y 1).val < 256 * ((grid0.coords t) 1).val + 256; omega
      | ⟨2, _⟩ => show 0 ≤ (y 2).val ∧ (y 2).val < 0 + 3072; omega
    rw [dif_pos hh]
    have hd : (y 1).val / 256 = t.val % 4 := by omega
    have hn : 4 * (t.val / 4) + (y 1).val / 256 = t.val := by omega
    show _ = chunk B0 B1 (4 * (t.val / 4) + (y 1).val / 256) _
    rw [hn]
    unfold chunk
    rw [pt_val]
    refine congrArg (k0_pay14 (F := F) (B1 t) (B0 t)) (funext fun a => Fin.ext ?_)
    match a with
    | ⟨0, _⟩ => show (y 0).val - ((grid0.coords t) 0).val % 2 = 0; omega
    | ⟨1, _⟩ => show (y 1).val - 256 * ((grid0.coords t) 1).val = (y 1).val % 256; omega
    | ⟨2, _⟩ => show (y 2).val - 0 = (y 2).val; omega

/-- The slots after a point that dequantises. -/
theorem invW_put {t : Fin grid0.N} {W : S2x1024x3072.Idx → Elt F .bf16} (ht : t.val / 4 < 84) (h : InvW B0 B1 t.val W) :
    InvW B0 B1 (t.val + 1) (wPut (grid0.coords t) (B0 t) (B1 t) W) := by
  have hc := cur_put (h.cur ht)
  by_cases h3 : t.val % 4 = 3
  · have e1 : (t.val + 1) / 4 = t.val / 4 + 1 := by omega
    have e2 : (t.val + 1) % 4 = 0 := by omega
    refine ⟨fun _ => ?_, fun _ _ => ?_⟩
    · rw [e2]; intro y _ hy; exact absurd hy (by simp)
    · rw [e1]
      have e3 : (t.val / 4 + 1 + 1) % 2 = (t.val / 4) % 2 := by omega
      rw [e3, Nat.add_sub_cancel]
      rw [h3] at hc
      exact hc
  · have e1 : (t.val + 1) / 4 = t.val / 4 := by omega
    have e2 : (t.val + 1) % 4 = t.val % 4 + 1 := by omega
    refine ⟨fun _ => ?_, fun h1 h2 => ?_⟩
    · rw [e1, e2]; exact hc
    · rw [e1] at h1 h2 ⊢
      exact prev_put _ _ (h.prev h1 h2)

/-- The slots after a point of the last step, which writes none. -/
theorem invW_last {t : Fin grid0.N} {W : S2x1024x3072.Idx → Elt F .bf16} (ht : t.val / 4 = 84) (h : InvW B0 B1 t.val W) : InvW B0 B1 (t.val + 1) W := by
  refine ⟨fun h1 => by omega, fun h1 h2 => ?_⟩
  have e1 : (t.val + 1) / 4 = t.val / 4 := by omega
  rw [e1] at h1 h2 ⊢
  exact h.prev h1 h2

/-- Tile `i`'s accumulator after its point of step `t`: the step's value. -/
theorem accStep_eq {t : Fin grid0.N} {M : S1024x3072.Idx → Elt F .bf16} {A : S4x1024x768.Idx → Elt F .f32} (h1 : 1 ≤ t.val / 4)
    (hM : M = wbMat B0 B1 (t.val / 4 - 1)) (hA : InvA B0 B1 B2 t.val A) :
    accStep (grid0.coords t) (B2 t) M (tileOf (grid0.coords t) A) = accV B0 B1 B2 (t.val / 4) (t.val % 4) := by
  obtain ⟨u, hu⟩ : ∃ u, t.val / 4 = u + 1 := ⟨t.val / 4 - 1, by omega⟩
  have hn : 4 * (u + 1) + t.val % 4 = t.val := by omega
  subst hM
  rw [hu]
  unfold accV
  rw [hn, pt_val, Nat.add_sub_cancel]
  have c0 := (coords_val t).1
  have c1 := (coords_val t).2
  by_cases h2 : 2 ≤ t.val / 4
  · rw [tileOf_eq]
    have e := hA.todo h2 ((grid0.coords t) 1) (by rw [c1])
    rw [e, c1, hu, Nat.add_sub_cancel]
  · have hu0 : u = 0 := by omega
    have hf := first_model (grid0.coords t) (by omega) (by rw [c0, hu, hu0])
    unfold accStep k0_pay2
    rw [hf]
    rfl

/-- The accumulators after a point that accumulates. -/
theorem invA_put {t : Fin grid0.N} {A : S4x1024x768.Idx → Elt F .f32} (h1 : 1 ≤ t.val / 4) (hA : InvA B0 B1 B2 t.val A) :
    InvA B0 B1 B2 (t.val + 1) (aPut (grid0.coords t) (accV B0 B1 B2 (t.val / 4) (t.val % 4)) A) := by
  have c1 := (coords_val t).2
  have hsame : ∀ k : Fin 4, k.val = t.val % 4 → tileAt k (aPut (grid0.coords t) (accV B0 B1 B2 (t.val / 4) (t.val % 4)) A) = accV B0 B1 B2 (t.val / 4) k.val := by
    intro k hk
    have : k = (grid0.coords t) 1 := Fin.ext (by rw [c1, hk])
    rw [hk, this]
    exact tileAt_aPut_same _ _ _
  have hne : ∀ k : Fin 4, k.val ≠ t.val % 4 → tileAt k (aPut (grid0.coords t) (accV B0 B1 B2 (t.val / 4) (t.val % 4)) A) = tileAt k A := by
    intro k hk
    refine tileAt_aPut_ne _ _ (fun e => hk ?_) _ _
    rw [e, c1]
  by_cases h3 : t.val % 4 = 3
  · have e1 : (t.val + 1) / 4 = t.val / 4 + 1 := by omega
    have e2 : (t.val + 1) % 4 = 0 := by omega
    refine ⟨fun _ k hk => by omega, fun _ k _ => ?_⟩
    rw [e1, Nat.add_sub_cancel]
    by_cases hk : k.val = t.val % 4
    · exact hsame k hk
    · rw [hne k hk]; exact hA.done h1 k (by omega)
  · have e1 : (t.val + 1) / 4 = t.val / 4 := by omega
    have e2 : (t.val + 1) % 4 = t.val % 4 + 1 := by omega
    refine ⟨fun _ k hk => ?_, fun h2 k hk => ?_⟩
    · rw [e1]
      by_cases hk' : k.val = t.val % 4
      · exact hsame k hk'
      · rw [hne k hk']; exact hA.done h1 k (by omega)
    · rw [e1] at h2 ⊢
      rw [hne k (by omega)]; exact hA.todo h2 k (by omega)

/-- The accumulators after a point of the first step, which touches none. -/
theorem invA_first {t : Fin grid0.N} {A A' : S4x1024x768.Idx → Elt F .f32} (h0 : t.val / 4 = 0) : InvA B0 B1 B2 (t.val + 1) A' := by
  by_cases h3 : t.val % 4 = 3
  · exact ⟨fun _ k hk => by omega, fun h => by omega⟩
  · exact ⟨fun h => by omega, fun h => by omega⟩

end Inv

end Cert.Kernel.Hand

end
-- ==== Proof.K.Rhs.lean ====
/-
  The first region (`cc0_rhs`): its proof data and its body obligation. At every point the body is one of the four cases of
  Body.lean; the invariant is the two scratch buffers at the values of Spec.lean.
-/
module

public import proofs.«01_k».proof.Proof.K.Spec
public import Idealize.ShloMosaic.Lib.Pipeline.FrameBody
public import Idealize.ShloMosaic.Lib.Pipeline.Frame
public import Idealize.ShloMosaic.Lib.Claim
public import Idealize.ShloMosaic.Lib.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents as a region finds them.
variable (V : (c : Dev nD) → (b : Ref sig .tc) → Buf (Elt F) ((c : Thread nD τ).loc b))

/-- The other scoped buffers: the second region's staging buffers. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks of codes, scales and Gram columns. -/
abbrev codesB (c : Dev nD) : Fin grid0.N → S1x256x3072.Idx → Elt F .i8 := fun t => iblk0 V c 0 t
abbrev scalesB (c : Dev nD) : Fin grid0.N → S1x256x1.Idx → Elt F .f32 := fun t => iblk0 V c 1 t
abbrev gramsB (c : Dev nD) : Fin grid0.N → S1x3072x768.Idx → Elt F .bf16 := fun t => iblk0 V c 2 t

/-- The accumulator after point `t`. -/
abbrev accAt (c : Dev nD) (t : Fin cfg0.N) : S1x1024x768.Idx → Elt F .f32 :=
  accV (codesB V c) (scalesB V c) (gramsB V c) (t.val / 4) (t.val % 4)

/-- The invariant before point `n`. -/
def Phi0 (c : Dev nD) (n : ℕ) : sProp 𝕄 :=
  iprop(∃ (W : S2x1024x3072.Idx → Elt F .bf16) (A : S4x1024x768.Idx → Elt F .f32),
    ⌜InvW (codesB V c) (scalesB V c) n W ∧ InvA (codesB V c) (scalesB V c) (gramsB V c) n A⌝ ∗ wbPt c W ∗ accPt c A ∗ otherScoped c)

/-- The proof data: after a point each input's buffer holds its block, each output's a plane of the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay4 (F := F) (accAt V c t)
    | ⟨4, _⟩ => k0_pay6 (F := F) (accAt V c t)
    | ⟨5, _⟩ => k0_pay7 (F := F) (accAt V c t)
  Φ n := Phi0 V c n.val
  q _ := fullShare
  owed _ := 0

theorem dat0_A (c : Dev nD) (w : Fin cfg0.W) : (dat0 V c).A w = V c (Pipeline.arrRef spec0 w) := by dsimp only [dat0]

theorem dat0_after0 (c : Dev nD) (t : Fin cfg0.N) : (dat0 V c).after 0 t = iblk0 V c 0 t := by dsimp only [dat0]
theorem dat0_after1 (c : Dev nD) (t : Fin cfg0.N) : (dat0 V c).after 1 t = iblk0 V c 1 t := by dsimp only [dat0]
theorem dat0_after2 (c : Dev nD) (t : Fin cfg0.N) : (dat0 V c).after 2 t = iblk0 V c 2 t := by dsimp only [dat0]
theorem dat0_after3 (c : Dev nD) (t : Fin cfg0.N) : (dat0 V c).after 3 t = k0_pay4 (F := F) (accAt V c t) := by dsimp only [dat0]
theorem dat0_after4 (c : Dev nD) (t : Fin cfg0.N) : (dat0 V c).after 4 t = k0_pay6 (F := F) (accAt V c t) := by dsimp only [dat0]
theorem dat0_after5 (c : Dev nD) (t : Fin cfg0.N) : (dat0 V c).after 5 t = k0_pay7 (F := F) (accAt V c t) := by dsimp only [dat0]

theorem dat0_before0 (c : Dev nD) (t : Fin cfg0.N) (d) : (dat0 V c).before 0 t d = iblk0 V c 0 t :=
  ((dat0 V c).before_in_eq_fetched 0 rfl (fun _ => rfl) (fun _ _ _ => rfl) (fun t => by rw [dat0_after0]; unfold Dat.blockOf iblk0; rw [dat0_A]; try rfl) t d).trans
    (by unfold Dat.fetched Dat.blockOf iblk0; rw [dat0_A]; try rfl)
theorem dat0_before1 (c : Dev nD) (t : Fin cfg0.N) (d) : (dat0 V c).before 1 t d = iblk0 V c 1 t :=
  ((dat0 V c).before_in_eq_fetched 1 rfl (fun _ => rfl) (fun _ _ _ => rfl) (fun t => by rw [dat0_after1]; unfold Dat.blockOf iblk0; rw [dat0_A]; try rfl) t d).trans
    (by unfold Dat.fetched Dat.blockOf iblk0; rw [dat0_A]; try rfl)
theorem dat0_before2 (c : Dev nD) (t : Fin cfg0.N) (d) : (dat0 V c).before 2 t d = iblk0 V c 2 t :=
  ((dat0 V c).before_in_eq_fetched 2 rfl (fun _ => rfl) (fun _ _ _ => rfl) (fun t => by rw [dat0_after2]; unfold Dat.blockOf iblk0; rw [dat0_A]; try rfl) t d).trans
    (by unfold Dat.fetched Dat.blockOf iblk0; rw [dat0_A]; try rfl)

/-! ## When the outputs are written -/

/-- A point that stores the outputs: the last model's step of a row block. -/
abbrev Live (t : Fin cfg0.N) : Prop := 0 < t.val / 4 ∧ t.val / 4 % 7 = 0

theorem idle_iff : ∀ t : Fin grid0.N, idle0 3 (grid0.coords t) = decide (¬ (0 < t.val / 4 ∧ t.val / 4 % 7 = 0)) := by decide +kernel
theorem flush0_3 : ∀ t : Fin cfg0.N, (cfg0.win 3).flush t = decide (0 < t.val / 4 ∧ t.val / 4 % 7 = 0) :=
  (by decide +kernel : ∀ t : Fin grid0.N, win0_3.flush t = decide (0 < t.val / 4 ∧ t.val / 4 % 7 = 0))
theorem flush0_4 : ∀ t : Fin cfg0.N, (cfg0.win 4).flush t = decide (0 < t.val / 4 ∧ t.val / 4 % 7 = 0) :=
  (by decide +kernel : ∀ t : Fin grid0.N, win0_4.flush t = decide (0 < t.val / 4 ∧ t.val / 4 % 7 = 0))
theorem flush0_5 : ∀ t : Fin cfg0.N, (cfg0.win 5).flush t = decide (0 < t.val / 4 ∧ t.val / 4 % 7 = 0) :=
  (by decide +kernel : ∀ t : Fin grid0.N, win0_5.flush t = decide (0 < t.val / 4 ∧ t.val / 4 % 7 = 0))

theorem leaves3_idle (c : Dev nD) (t : Fin cfg0.N) (h : ¬ Live t) :
    (dat0 V c).leavesExact 3 t = iprop(∃ d, owns c (st0_3 t) fullShare ((dat0 V c).before 3 t d)) :=
  (dat0 V c).leavesExact_idle 3 t ((idle_iff t).trans (decide_eq_true h)) ((flush0_3 t).trans (decide_eq_false h))
theorem leaves3_live (c : Dev nD) (t : Fin cfg0.N) (h : Live t) :
    (dat0 V c).leavesExact 3 t = owns c (st0_3 t) fullShare ((dat0 V c).after 3 t) := by
  have hi : cfg0.idle 3 (cfg0.grid.coords t) = false := (idle_iff t).trans (decide_eq_false (not_not.mpr h))
  unfold Dat.leavesExact; rw [hi]
theorem leaves4_idle (c : Dev nD) (t : Fin cfg0.N) (h : ¬ Live t) :
    (dat0 V c).leavesExact 4 t = iprop(∃ d, owns c (st0_4 t) fullShare ((dat0 V c).before 4 t d)) :=
  (dat0 V c).leavesExact_idle 4 t ((idle_iff t).trans (decide_eq_true h)) ((flush0_4 t).trans (decide_eq_false h))
theorem leaves4_live (c : Dev nD) (t : Fin cfg0.N) (h : Live t) :
    (dat0 V c).leavesExact 4 t = owns c (st0_4 t) fullShare ((dat0 V c).after 4 t) := by
  have hi : cfg0.idle 4 (cfg0.grid.coords t) = false := (idle_iff t).trans (decide_eq_false (not_not.mpr h))
  unfold Dat.leavesExact; rw [hi]
theorem leaves5_idle (c : Dev nD) (t : Fin cfg0.N) (h : ¬ Live t) :
    (dat0 V c).leavesExact 5 t = iprop(∃ d, owns c (st0_5 t) fullShare ((dat0 V c).before 5 t d)) :=
  (dat0 V c).leavesExact_idle 5 t ((idle_iff t).trans (decide_eq_true h)) ((flush0_5 t).trans (decide_eq_false h))
theorem leaves5_live (c : Dev nD) (t : Fin cfg0.N) (h : Live t) :
    (dat0 V c).leavesExact 5 t = owns c (st0_5 t) fullShare ((dat0 V c).after 5 t) := by
  have hi : cfg0.idle 5 (cfg0.grid.coords t) = false := (idle_iff t).trans (decide_eq_false (not_not.mpr h))
  unfold Dat.leavesExact; rw [hi]

/-! ## The body obligation -/

/-- What the body is called with at point `t`, -/
def bodyPre0 (c : Dev nD) (t : Fin cfg0.N) : sProp 𝕄 :=
  iprop(Phi0 V c t.val ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop(Phi0 V c (t.val + 1) ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ (dat0 V c).leavesExact 3 t
    ∗ (dat0 V c).leavesExact 4 t
    ∗ (dat0 V c).leavesExact 5 t)

/-- The first step at any point. -/
theorem sound_first (c : Dev nD) (t : Fin cfg0.N) (h0 : t.val / 4 = 0) (hn : ¬ Live t) :
    bodyPre0 V c t ⊢ wp frame (wpE (defs₀ (F := F)) Variants.none c none) Set.univ (bodyAt0 t) (fun _ => bodyPost0 V c t) := by
  have c0 := (coords_val t).1
  unfold bodyPre0 bodyPost0 bodyAt0 Phi0
  simp only [dat0_before0, dat0_before1, dat0_before2]
  rw [leaves3_idle V c t hn, leaves4_idle V c t hn, leaves5_idle V c t hn]
  iintro ⟨⟨%W, %A, %hI, HW, HA, Hr⟩, Ho, ⟨%d0, H0⟩, ⟨%d1, H1⟩, ⟨%d2, H2⟩, H3, H4, H5⟩
  iapply (run_first c (grid0.coords t) _ _ _ _ _ _ _ _ _ _ _ _ ((cond1_iff _).mpr (by omega)) (fun h => by have := (cond2_iff _).mp h; omega) (fun h => by have := (cond4_iff _).mp h; omega)
    (iblk0 V c 0 t) (iblk0 V c 1 t) W _)
  isplitl [H0]; · iexact H0
  isplitl [H1]; · iexact H1
  isplitl [HW]; · iexact HW
  iintro ⟨H0, H1, HW⟩
  isplitl [HW HA Hr]
  · iexists _, _
    isplitr
    · ipureintro
      exact ⟨invW_put (B0 := codesB V c) (B1 := scalesB V c) (by omega) hI.1, invA_first (A := A) (A' := A) h0⟩
    isplitl [HW]; · iexact HW
    isplitl [HA]; · iexact HA
    iexact Hr
  isplitl [Ho]; · iexact Ho
  isplitl [H0]; · iexact H0
  isplitl [H1]; · iexact H1
  isplitl [H2]; · iexact H2
  isplitl [H3]; · iexact H3
  isplitl [H4]; · iexact H4
  iexact H5

/-- A middle step that does not store the outputs. -/
theorem sound_mid (c : Dev nD) (t : Fin cfg0.N) (h1 : 1 ≤ t.val / 4) (h2 : t.val / 4 < 84) (hn : ¬ Live t) :
    bodyPre0 V c t ⊢ wp frame (wpE (defs₀ (F := F)) Variants.none c none) Set.univ (bodyAt0 t) (fun _ => bodyPost0 V c t) := by
  have c0 := (coords_val t).1
  unfold bodyPre0 bodyPost0 bodyAt0 Phi0
  simp only [dat0_before0, dat0_before1, dat0_before2]
  rw [leaves3_idle V c t hn, leaves4_idle V c t hn, leaves5_idle V c t hn]
  iintro ⟨⟨%W, %A, %hI, HW, HA, Hr⟩, Ho, ⟨%d0, H0⟩, ⟨%d1, H1⟩, ⟨%d2, H2⟩, H3, H4, H5⟩
  have hM := slotMat_eq (B0 := codesB V c) (B1 := scalesB V c) (grid0.coords t) (t.val / 4 - 1) (wPut (grid0.coords t) (codesB V c t) (scalesB V c t) W)
    (by rw [c0]; exact prev_put _ _ (hI.1.prev h1 (by omega)))
  have hT := accStep_eq h1 hM hI.2
  iapply (run_mid c (grid0.coords t) _ _ _ _ _ _ _ _ _ _ _ _ (by omega) (fun h => by have := (cond1_iff _).mp h; omega) ((cond2_iff _).mpr (by omega)) (fun h => hn ⟨h1, by have := (cond3_iff _ (by omega)).mp h; omega⟩) (fun h => by have := (cond4_iff _).mp h; omega)
    (iblk0 V c 0 t) (iblk0 V c 1 t) (iblk0 V c 2 t) W A _)
  isplitl [H0]; · iexact H0
  isplitl [H1]; · iexact H1
  isplitl [H2]; · iexact H2
  isplitl [HW]; · iexact HW
  isplitl [HA]; · iexact HA
  rw [hT]
  iintro ⟨H0, H1, H2, HW, HA⟩
  isplitl [HW HA Hr]
  · iexists _, _
    isplitr
    · ipureintro
      exact ⟨invW_put (B0 := codesB V c) (B1 := scalesB V c) h2 hI.1, invA_put h1 hI.2⟩
    isplitl [HW]; · iexact HW
    isplitl [HA]; · iexact HA
    iexact Hr
  isplitl [Ho]; · iexact Ho
  isplitl [H0]; · iexact H0
  isplitl [H1]; · iexact H1
  isplitl [H2]; · iexact H2
  isplitl [H3]; · iexact H3
  isplitl [H4]; · iexact H4
  iexact H5

/-- A middle step that stores the outputs. -/
theorem sound_midflush (c : Dev nD) (t : Fin cfg0.N) (h2 : t.val / 4 < 84) (hl : Live t) :
    bodyPre0 V c t ⊢ wp frame (wpE (defs₀ (F := F)) Variants.none c none) Set.univ (bodyAt0 t) (fun _ => bodyPost0 V c t) := by
  have c0 := (coords_val t).1
  unfold bodyPre0 bodyPost0 bodyAt0 Phi0
  simp only [dat0_before0, dat0_before1, dat0_before2]
  rw [leaves3_live V c t hl, leaves4_live V c t hl, leaves5_live V c t hl]
  rw [dat0_after3, dat0_after4, dat0_after5]
  iintro ⟨⟨%W, %A, %hI, HW, HA, Hr⟩, Ho, ⟨%d0, H0⟩, ⟨%d1, H1⟩, ⟨%d2, H2⟩, H3, H4, H5⟩
  icases H3 with ⟨%d3, H3⟩
  icases H4 with ⟨%d4, H4⟩
  icases H5 with ⟨%d5, H5⟩
  have h1 : 1 ≤ t.val / 4 := hl.1
  have hM := slotMat_eq (B0 := codesB V c) (B1 := scalesB V c) (grid0.coords t) (t.val / 4 - 1) (wPut (grid0.coords t) (codesB V c t) (scalesB V c t) W)
    (by rw [c0]; exact prev_put _ _ (hI.1.prev h1 (by omega)))
  have hT := accStep_eq h1 hM hI.2
  iapply (run_midflush c (grid0.coords t) _ _ _ _ _ _ _ _ _ _ _ _ (by omega) (fun h => by have := (cond1_iff _).mp h; omega) ((cond2_iff _).mpr (by omega)) ((cond3_iff _ (by omega)).mpr (by rw [c0]; exact hl.2)) (fun h => by have := (cond4_iff _).mp h; omega)
    (iblk0 V c 0 t) (iblk0 V c 1 t) (iblk0 V c 2 t) _ _ _ W A _)
  isplitl [H0]; · iexact H0
  isplitl [H1]; · iexact H1
  isplitl [H2]; · iexact H2
  isplitl [H3]; · iexact H3
  isplitl [H4]; · iexact H4
  isplitl [H5]; · iexact H5
  isplitl [HW]; · iexact HW
  isplitl [HA]; · iexact HA
  rw [hT]
  iintro ⟨H0, H1, H2, H3, H4, H5, HW, HA⟩
  isplitl [HW HA Hr]
  · iexists _, _
    isplitr
    · ipureintro
      exact ⟨invW_put (B0 := codesB V c) (B1 := scalesB V c) h2 hI.1, invA_put h1 hI.2⟩
    isplitl [HW]; · iexact HW
    isplitl [HA]; · iexact HA
    iexact Hr
  isplitl [Ho]; · iexact Ho
  isplitl [H0]; · iexact H0
  isplitl [H1]; · iexact H1
  isplitl [H2]; · iexact H2
  isplitl [H3]; · iexact H3
  isplitl [H4]; · iexact H4
  iexact H5

/-- The last step. -/
theorem sound_last (c : Dev nD) (t : Fin cfg0.N) (h2 : t.val / 4 = 84) (hl : Live t) :
    bodyPre0 V c t ⊢ wp frame (wpE (defs₀ (F := F)) Variants.none c none) Set.univ (bodyAt0 t) (fun _ => bodyPost0 V c t) := by
  have c0 := (coords_val t).1
  unfold bodyPre0 bodyPost0 bodyAt0 Phi0
  simp only [dat0_before0, dat0_before1, dat0_before2]
  rw [leaves3_live V c t hl, leaves4_live V c t hl, leaves5_live V c t hl]
  rw [dat0_after3, dat0_after4, dat0_after5]
  iintro ⟨⟨%W, %A, %hI, HW, HA, Hr⟩, Ho, ⟨%d0, H0⟩, ⟨%d1, H1⟩, ⟨%d2, H2⟩, H3, H4, H5⟩
  icases H3 with ⟨%d3, H3⟩
  icases H4 with ⟨%d4, H4⟩
  icases H5 with ⟨%d5, H5⟩
  have h1 : 1 ≤ t.val / 4 := hl.1
  have hM := slotMat_eq (B0 := codesB V c) (B1 := scalesB V c) (grid0.coords t) (t.val / 4 - 1) W
    (by rw [c0]; exact hI.1.prev h1 (by omega))
  have hT := accStep_eq h1 hM hI.2
  iapply (run_last c (grid0.coords t) _ _ _ _ _ _ _ _ _ _ _ _ (by omega) (fun h => by have := (cond1_iff _).mp h; omega) (fun h => by have := (cond2_iff _).mp h; omega) ((cond4_iff _).mpr (by omega)) (cond5_iff _ (by omega))
    (iblk0 V c 2 t) _ _ _ W A _)
  isplitl [H2]; · iexact H2
  isplitl [H3]; · iexact H3
  isplitl [H4]; · iexact H4
  isplitl [H5]; · iexact H5
  isplitl [HW]; · iexact HW
  isplitl [HA]; · iexact HA
  rw [hT]
  iintro ⟨H2, H3, H4, H5, HW, HA⟩
  isplitl [HW HA Hr]
  · iexists _, _
    isplitr
    · ipureintro
      exact ⟨invW_last h2 hI.1, invA_put h1 hI.2⟩
    isplitl [HW]; · iexact HW
    isplitl [HA]; · iexact HA
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 340 := Nat.lt_of_lt_of_eq t.isLt N_0
  by_cases h0 : t.val / 4 = 0
  · exact sound_first V c t h0 (fun h => by have := h.1; omega)
  by_cases hl : Live t
  · by_cases h2 : t.val / 4 = 84
    · exact sound_last V c t h2 hl
    · exact sound_midflush V c t (by omega) hl
  · refine sound_mid V c t (by omega) (Nat.lt_of_le_of_ne (by omega) fun h => hl ⟨by omega, by rw [h]⟩) hl

/-- The body table's row at point `t`'s slots is the body as `bodyAt0` spells it. -/
theorem defs₀_row0 (t : Fin cfg0.N) : defs₀ (F := F) .tc cfg0.body (cfg0.bodyArgs t (cfg0.slots t)) = bodyAt0 t := by
  unfold defs₀; rw [Defs.onTc_tc]

/-- The body obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## Entry and exit -/

/-- The scoped buffers make the invariant before the first point, -/
theorem Phi0_in (c : Dev nD) : iprop(Pipeline.scopedRest spec0 c ∗ emp) ⊢ (Phi0 (F := F) V c 0 : sProp 𝕄) := by
  rw [scopedRest0_eq]
  unfold Phi0
  iintro ⟨⟨⟨%W, HW⟩, ⟨%A, HA⟩, Hr⟩, -⟩
  iexists W, A
  isplitr
  · ipureintro; exact ⟨invW_zero _ _ _, invA_zero _ _ _ _⟩
  isplitl [HW]; · iexact HW
  isplitl [HA]; · iexact HA
  unfold otherScoped
  iexact Hr

/-- and the invariant gives them back at any point. -/
theorem Phi0_out (c : Dev nD) (n : ℕ) : (Phi0 (F := F) V c n : sProp 𝕄) ⊢ iprop(Pipeline.scopedRest spec0 c ∗ emp) := by
  rw [scopedRest0_eq]
  unfold Phi0
  iintro ⟨%W, %A, -, HW, HA, Hr⟩
  isplitl
  · isplitl [HW]; · iexists W; iexact HW
    isplitl [HA]; · iexists A; iexact HA
    unfold otherScoped
    iexact Hr
  iempintro

end Cert.Kernel.Hand

end
-- ==== Proof.K.Solve.lean ====
/-
  The second region (`cc1_solve`): every point loads six whole blocks and stores one. Its proof data and body obligation.
-/
module

public import proofs.«01_k».proof.Proof.K.Body
public import proofs.«01_k».proof.Proof.Gen.Kernel.Launch
public import Idealize.ShloMosaic.Lib.Pipeline.FrameBody
public import Idealize.ShloMosaic.Lib.Pipeline.Frame
public import Idealize.ShloMosaic.Lib.Claim
public import Idealize.ShloMosaic.Lib.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents as a region finds them.
variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rRow : Rect S1024x3072 := Rect.unit (s := S1024x3072) ![0, 0] S1024x3072.size inb_S1024x3072_S1024x3072_0_0
abbrev rCol : Rect S3072x256 := Rect.unit (s := S3072x256) ![0, 0] S3072x256.size inb_S3072x256_S3072x256_0_0
abbrev rOut : Rect S1024x256 := Rect.unit (s := S1024x256) ![0, 0] S1024x256.size inb_S1024x256_S1024x256_0_0

/-- What the body stores, from its six blocks. -/
def solvePay (x0 x1 x2 : Vec F S1024x3072 .bf16) (x3 x4 x5 : Vec F S3072x256 .bf16) : Vec F S1024x256 .bf16 :=
  k1_pay1 (k1_pay2 (View.ld x2 rRow) (View.ld x3 rCol) (View.ld x1 rRow) (View.ld x4 rCol) (View.ld x0 rRow) (View.ld x5 rCol) (View.ld x1 rRow) (View.ld x3 rCol) (View.ld x0 rRow) (View.ld x4 rCol))
    (k1_pay3 (View.ld x0 rRow) (View.ld x3 rCol))

/-- The output's buffer after the body. -/
def out1_6 (x0 x1 x2 : Vec F S1024x3072 .bf16) (x3 x4 x5 : Vec F S3072x256 .bf16) : Vec F S1024x256 .bf16 :=
  View.canon [⟨rOut, solvePay x0 x1 x2 x3 x4 x5⟩]

/-- The one store covers the buffer. -/
theorem cover1_6 (p0 : Vec F S1024x256 .bf16) (y : S1024x256.Idx) :
    ∃ pc ∈ ([⟨rOut, p0⟩] : List (View.Piece (Elt F) S1024x256 .bf16)), y ∈ pc.1.set :=
  View.cover_of_tiled [⟨rOut, p0⟩] S1024x256.size (by rfl) y

set_option maxHeartbeats 1000000 in
/-- The body on whole buffers: the inputs as they were, the output at `out1_6` of them. -/
theorem sound_kernel1 (c : Dev nD) (E : Set ℕ) (i : grid1.Coords)
    (arg2 : Memref sig .tc .vmem S1024x3072 .bf16) (harg2 : arg2.IsWhole) (arg3 : Memref sig .tc .vmem S1024x3072 .bf16) (harg3 : arg3.IsWhole) (arg4 : Memref sig .tc .vmem S1024x3072 .bf16) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x256 .bf16) (harg7 : arg7.IsWhole) (arg8 : Memref sig .tc .vmem S1024x256 .bf16) (harg8 : arg8.IsWhole)
    (x0 x1 x2 : Vec F S1024x3072 .bf16) (x3 x4 x5 : Vec F S3072x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1_solve i arg2 harg2 arg3 harg3 arg4 harg4 arg5 harg5 arg6 harg6 arg7 harg7 arg8 harg8) K := by
  simp only [cc1_solve_eq_skeleton]; unfold cc1_solve_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data: after a point each input's buffer holds its block, the output's the body's value of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.scopedRest spec1 c
  q _ := fullShare
  owed _ := 0

theorem dat1_A (c : Dev nD) (w : Fin cfg1.W) : (dat1 V c).A w = V c (Pipeline.arrRef spec1 w) := by dsimp only [dat1]

theorem dat1_after0 (c : Dev nD) (t : Fin cfg1.N) : (dat1 V c).after 0 t = iblk1 V c 0 t := by dsimp only [dat1]
theorem dat1_after1 (c : Dev nD) (t : Fin cfg1.N) : (dat1 V c).after 1 t = iblk1 V c 1 t := by dsimp only [dat1]
theorem dat1_after2 (c : Dev nD) (t : Fin cfg1.N) : (dat1 V c).after 2 t = iblk1 V c 2 t := by dsimp only [dat1]
theorem dat1_after3 (c : Dev nD) (t : Fin cfg1.N) : (dat1 V c).after 3 t = iblk1 V c 3 t := by dsimp only [dat1]
theorem dat1_after4 (c : Dev nD) (t : Fin cfg1.N) : (dat1 V c).after 4 t = iblk1 V c 4 t := by dsimp only [dat1]
theorem dat1_after5 (c : Dev nD) (t : Fin cfg1.N) : (dat1 V c).after 5 t = iblk1 V c 5 t := by dsimp only [dat1]
theorem dat1_after6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem dat1_before0 (c : Dev nD) (t : Fin cfg1.N) (d) : (dat1 V c).before 0 t d = iblk1 V c 0 t :=
  ((dat1 V c).before_in_eq_fetched 0 rfl (fun _ => rfl) (fun _ _ _ => rfl) (fun t => by rw [dat1_after0]; unfold Dat.blockOf iblk1; rw [dat1_A]; try rfl) t d).trans
    (by unfold Dat.fetched Dat.blockOf iblk1; rw [dat1_A]; try rfl)
theorem dat1_before1 (c : Dev nD) (t : Fin cfg1.N) (d) : (dat1 V c).before 1 t d = iblk1 V c 1 t :=
  ((dat1 V c).before_in_eq_fetched 1 rfl (fun _ => rfl) (fun _ _ _ => rfl) (fun t => by rw [dat1_after1]; unfold Dat.blockOf iblk1; rw [dat1_A]; try rfl) t d).trans
    (by unfold Dat.fetched Dat.blockOf iblk1; rw [dat1_A]; try rfl)
theorem dat1_before2 (c : Dev nD) (t : Fin cfg1.N) (d) : (dat1 V c).before 2 t d = iblk1 V c 2 t :=
  ((dat1 V c).before_in_eq_fetched 2 rfl (fun _ => rfl) (fun _ _ _ => rfl) (fun t => by rw [dat1_after2]; unfold Dat.blockOf iblk1; rw [dat1_A]; try rfl) t d).trans
    (by unfold Dat.fetched Dat.blockOf iblk1; rw [dat1_A]; try rfl)
theorem dat1_before3 (c : Dev nD) (t : Fin cfg1.N) (d) : (dat1 V c).before 3 t d = iblk1 V c 3 t :=
  ((dat1 V c).before_in_eq_fetched 3 rfl (fun _ => rfl) (fun _ _ _ => rfl) (fun t => by rw [dat1_after3]; unfold Dat.blockOf iblk1; rw [dat1_A]; try rfl) t d).trans
    (by unfold Dat.fetched Dat.blockOf iblk1; rw [dat1_A]; try rfl)
theorem dat1_before4 (c : Dev nD) (t : Fin cfg1.N) (d) : (dat1 V c).before 4 t d = iblk1 V c 4 t :=
  ((dat1 V c).before_in_eq_fetched 4 rfl (fun _ => rfl) (fun _ _ _ => rfl) (fun t => by rw [dat1_after4]; unfold Dat.blockOf iblk1; rw [dat1_A]; try rfl) t d).trans
    (by unfold Dat.fetched Dat.blockOf iblk1; rw [dat1_A]; try rfl)
theorem dat1_before5 (c : Dev nD) (t : Fin cfg1.N) (d) : (dat1 V c).before 5 t d = iblk1 V c 5 t :=
  ((dat1 V c).before_in_eq_fetched 5 rfl (fun _ => rfl) (fun _ _ _ => rfl) (fun t => by rw [dat1_after5]; unfold Dat.blockOf iblk1; rw [dat1_A]; try rfl) t d).trans
    (by unfold Dat.fetched Dat.blockOf iblk1; rw [dat1_A]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) : defs₀ (F := F) .tc cfg1.body (cfg1.bodyArgs t (cfg1.slots t)) = bodyAt1 t := by
  unfold defs₀; rw [Defs.onTc_tc]

/-- The body obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Hand

end
-- ==== Proof.K.Run.lean ====
/-
  The run of @main: the two regions' segment records between held valuations, and the final memory — every argument as launched,
  the result at what the second region's proof data compute, every semaphore counter zero.
-/
module

public import proofs.«01_k».proof.Proof.K.Rhs
public import proofs.«01_k».proof.Proof.K.Solve
public import proofs.«01_k».proof.Proof.Gen.Kernel.Regions
public import Idealize.ShloMosaic.Lib.Pipeline.RegionArraysS
public import Idealize.ShloMosaic.Lib.Pipeline.FrameBody
public import Idealize.ShloMosaic.Lib.Pipeline.Frame
public import Idealize.ShloMosaic.Lib.Claim
public import Idealize.ShloMosaic.Lib.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers when the first region is entered, -/
def U1 (c : Dev nD) : Valuation τ sig (Elt F) := V1 m c

/-- as the region's proof data read them; -/
abbrev A1 (c : Dev nD) (b : Ref sig .tc) : Buf (Elt F) ((c : Thread nD τ).loc b) := U1 m c b

/-- when the second region is entered, -/
def U2 (c : Dev nD) : Valuation τ sig (Elt F) := Pipeline.afterRegion (dat0 (A1 m) c) (U1 m c)

abbrev A2 (c : Dev nD) (b : Ref sig .tc) : Buf (Elt F) ((c : Thread nD τ).loc b) := U2 m c b

/-- and at the end. -/
def U3 (c : Dev nD) : Valuation τ sig (Elt F) := Pipeline.afterRegion (dat1 (A2 m) c) (U2 m c)

/-- The two pipelines' proof data. -/
def pdats : (p : Fin 2) → (c : Dev nD) → Dat τ (Elt F) Unit ℕ (UR sig nD τ) ℕ (cfgs p) c
  | ⟨0, _⟩ => fun c => dat0 (A1 m) c
  | ⟨1, _⟩ => fun c => dat1 (A2 m) c

theorem inj0 : Function.Injective (Pipeline.arrRef spec0) := winFacts0.arr_inj
theorem inj1 : Function.Injective (Pipeline.arrRef spec1) := winFacts1.arr_inj

/-- A buffer that is no output of the first region is as before it. -/
theorem U2_of (c : Dev nD) (r : Ref sig .tc) (h : ∀ w : Fin 6, Pipeline.arrRef spec0 w = r → (spec0 w).isOut = false) : U2 m c r = U1 m c r :=
  Pipeline.afterRegion_keeps (dat0 (A1 m) c) (U1 m c) inj0 (fun w => dat0_A (A1 m) c w) r h
theorem U3_of (c : Dev nD) (r : Ref sig .tc) (h : ∀ w : Fin 7, Pipeline.arrRef spec1 w = r → (spec1 w).isOut = false) : U3 m c r = U2 m c r :=
  Pipeline.afterRegion_keeps (dat1 (A2 m) c) (U2 m c) inj1 (fun w => dat1_A (A2 m) c w) r h

/-- The first region's planes, as the second finds them. -/
theorem U2_arr (c : Dev nD) (w : Fin cfg0.W) : U2 m c (Proc.devRef .tc (Pipeline.arrRef spec0 w)) = (dat0 (A1 m) c).arrAt w cfg0.N :=
  Pipeline.afterRegion_arr (dat0 (A1 m) c) (U1 m c) inj0 w
/-- The result. -/
theorem U3_arr (c : Dev nD) (w : Fin cfg1.W) : U3 m c (Proc.devRef .tc (Pipeline.arrRef spec1 w)) = (dat1 (A2 m) c).arrAt w cfg1.N :=
  Pipeline.afterRegion_arr (dat1 (A2 m) c) (U2 m c) inj1 w

theorem U1_main_arg0 (c : Dev nD) : U1 m c main_arg0 = m ((c : Thread nD τ).loc main_arg0) := (V1_of m c main_arg0 (by decide)).trans rfl
theorem U2_main_arg0 (c : Dev nD) : U2 m c main_arg0 = m ((c : Thread nD τ).loc main_arg0) := (U2_of m c main_arg0 (by decide)).trans (U1_main_arg0 m c)
theorem U3_main_arg0 (c : Dev nD) : U3 m c main_arg0 = m ((c : Thread nD τ).loc main_arg0) := (U3_of m c main_arg0 (by decide)).trans (U2_main_arg0 m c)
theorem U1_main_arg1 (c : Dev nD) : U1 m c main_arg1 = m ((c : Thread nD τ).loc main_arg1) := (V1_of m c main_arg1 (by decide)).trans rfl
theorem U2_main_arg1 (c : Dev nD) : U2 m c main_arg1 = m ((c : Thread nD τ).loc main_arg1) := (U2_of m c main_arg1 (by decide)).trans (U1_main_arg1 m c)
theorem U3_main_arg1 (c : Dev nD) : U3 m c main_arg1 = m ((c : Thread nD τ).loc main_arg1) := (U3_of m c main_arg1 (by decide)).trans (U2_main_arg1 m c)
theorem U1_main_arg2 (c : Dev nD) : U1 m c main_arg2 = m ((c : Thread nD τ).loc main_arg2) := (V1_of m c main_arg2 (by decide)).trans rfl
theorem U2_main_arg2 (c : Dev nD) : U2 m c main_arg2 = m ((c : Thread nD τ).loc main_arg2) := (U2_of m c main_arg2 (by decide)).trans (U1_main_arg2 m c)
theorem U3_main_arg2 (c : Dev nD) : U3 m c main_arg2 = m ((c : Thread nD τ).loc main_arg2) := (U3_of m c main_arg2 (by decide)).trans (U2_main_arg2 m c)
theorem U1_main_arg3 (c : Dev nD) : U1 m c main_arg3 = m ((c : Thread nD τ).loc main_arg3) := (V1_of m c main_arg3 (by decide)).trans rfl
theorem U2_main_arg3 (c : Dev nD) : U2 m c main_arg3 = m ((c : Thread nD τ).loc main_arg3) := (U2_of m c main_arg3 (by decide)).trans (U1_main_arg3 m c)
theorem U3_main_arg3 (c : Dev nD) : U3 m c main_arg3 = m ((c : Thread nD τ).loc main_arg3) := (U3_of m c main_arg3 (by decide)).trans (U2_main_arg3 m c)
theorem U1_main_arg4 (c : Dev nD) : U1 m c main_arg4 = m ((c : Thread nD τ).loc main_arg4) := (V1_of m c main_arg4 (by decide)).trans rfl
theorem U2_main_arg4 (c : Dev nD) : U2 m c main_arg4 = m ((c : Thread nD τ).loc main_arg4) := (U2_of m c main_arg4 (by decide)).trans (U1_main_arg4 m c)
theorem U3_main_arg4 (c : Dev nD) : U3 m c main_arg4 = m ((c : Thread nD τ).loc main_arg4) := (U3_of m c main_arg4 (by decide)).trans (U2_main_arg4 m c)
theorem U1_main_arg5 (c : Dev nD) : U1 m c main_arg5 = m ((c : Thread nD τ).loc main_arg5) := (V1_of m c main_arg5 (by decide)).trans rfl
theorem U2_main_arg5 (c : Dev nD) : U2 m c main_arg5 = m ((c : Thread nD τ).loc main_arg5) := (U2_of m c main_arg5 (by decide)).trans (U1_main_arg5 m c)
theorem U3_main_arg5 (c : Dev nD) : U3 m c main_arg5 = m ((c : Thread nD τ).loc main_arg5) := (U3_of m c main_arg5 (by decide)).trans (U2_main_arg5 m c)

/-! ## The regions' records -/

/-- Every TensorCore cell has the one index, at level 0. -/
def lvlIx (g : GSem nD τ sig) : Finset Unit := if g.1.2 = .tc then {()} else ∅
def lvl (_ : GSem nD τ sig) (_ : Unit) : ℕ := 0

theorem lvlIx_off (g : GSem nD τ sig) (h : g.1.2 ≠ .tc) : lvlIx g = ∅ := if_neg h

theorem cut (p : Fin 2) : Pipeline.LevelCut (pcfgs (F := F)) adm () lvlIx lvl p (fun _ => (0 : CellTallies nD τ sig Unit)) (fun _ => 0) where
  hι c w s := by unfold lvlIx; rw [if_pos rfl]; exact Finset.mem_singleton_self _
  hιb c w s := Nat.le_refl _
  hD c g i h := absurd h (by show ¬ 0 < 0; decide)

/-- The second region's invariant is the scoped buffers it does not stage. -/
theorem Phi1_in (V : (c : Dev nD) → (b : Ref sig .tc) → Buf (Elt F) ((c : Thread nD τ).loc b)) (c : Dev nD) :
    iprop(Pipeline.scopedRest spec1 c ∗ emp) ⊢ ((dat1 V c).Φ 0 : sProp 𝕄) := by
  dsimp only [dat1]
  iintro ⟨H, -⟩
  iexact H
theorem Phi1_out (V : (c : Dev nD) → (b : Ref sig .tc) → Buf (Elt F) ((c : Thread nD τ).loc b)) (c : Dev nD) (n) :
    ((dat1 V c).Φ n : sProp 𝕄) ⊢ iprop(Pipeline.scopedRest spec1 c ∗ emp) := by
  dsimp only [dat1]
  iintro H
  isplitl
  · iexact H
  iempintro

set_option backward.isDefEq.respectTransparency.types false in
/-- The first region: from the buffers at `U1` to the buffers at `U2`. -/
def reg0 : RegionSeg (pcfgs (F := F)) adm (pdats m) () defs₀ Variants.none lvlIx lvl 0 :=
  RegionSeg.ofHeldIn (pcfgs (F := F)) adm (pdats m) () defs₀ Variants.none lvlIx lvl 0 (fun _ => 0) (Pipeline.ucRefs τ sig)
    (fun _ => iprop(emp)) (fun _ => iprop(emp)) launch0.toP rfl
    (fun c => (body_obligation0 (A1 m) c).loose) (fun c t => rfl) (fun c => rfl) (fun c => (dat0 (A1 m) c).share_full fun _ => rfl)
    (fun c => Phi0_in (A1 m) c) (fun c => Phi0_out (A1 m) c _) (fun _ => 0) (cut 0) (fun _ => iprop(emp)) (U1 m)
    (fun c w => dat0_A (A1 m) c w)

set_option backward.isDefEq.respectTransparency.types false in
/-- The second: from `U2` to `U3`. -/
def reg1 : RegionSeg (pcfgs (F := F)) adm (pdats m) () defs₀ Variants.none lvlIx lvl 1 :=
  RegionSeg.ofHeldIn (pcfgs (F := F)) adm (pdats m) () defs₀ Variants.none lvlIx lvl 1 (fun _ => 0) (Pipeline.ucRefs τ sig)
    (fun _ => iprop(emp)) (fun _ => iprop(emp)) launch1.toP rfl
    (fun c => (body_obligation1 (A2 m) c).loose) (fun c t => rfl) (fun c => rfl) (fun c => (dat1 (A2 m) c).share_full fun _ => rfl)
    (fun c => Phi1_in (A2 m) c) (fun c => Phi1_out (A2 m) c _) (fun _ => 0) (cut 1) (fun _ => iprop(emp)) (U2 m)
    (fun c w => dat1_A (A2 m) c w)

/-- What rides beside the held buffers between items. -/
def rest (c : Dev nD) : sProp 𝕄 := iprop((∃ W, owes (c : Thread nD τ) (0 : CellTallies nD τ sig Unit) W) ∗ emp ∗ emp)

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

set_option backward.isDefEq.respectTransparency.types false in
theorem reg0_pre (c : Dev nD) : iprop(StableHlo.held (c : Thread nD τ) (Pipeline.ucRefs τ sig) (U1 m c) ∗ rest (F := F) c) ⊢ (reg0 m).pre c :=
  by unfold reg0 rest; exact Entails.trans .rfl (RegionSeg.ofHeldIn_pre (pcs := pcfgs (F := F)) (p := 0) (D := fun _ => 0) (X := fun _ => iprop(emp)) (R := fun _ => iprop(emp)) (W := U1 m) (sub0 (F := F)) c)
set_option backward.isDefEq.respectTransparency.types false in
theorem reg0_post (c : Dev nD) : (reg0 m).post c ⊢ iprop(StableHlo.held (c : Thread nD τ) (Pipeline.ucRefs τ sig) (U2 m c) ∗ rest (F := F) c) :=
  by unfold reg0 rest; exact Entails.trans (RegionSeg.ofHeldIn_post (pcs := pcfgs (F := F)) (p := 0) (D := fun _ => 0) (Y := fun _ => iprop(emp)) (R := fun _ => iprop(emp)) (W := U1 m) (sub0 (F := F)) c) .rfl
set_option backward.isDefEq.respectTransparency.types false in
theorem reg1_pre (c : Dev nD) : iprop(StableHlo.held (c : Thread nD τ) (Pipeline.ucRefs τ sig) (U2 m c) ∗ rest (F := F) c) ⊢ (reg1 m).pre c :=
  by unfold reg1 rest; exact Entails.trans .rfl (RegionSeg.ofHeldIn_pre (pcs := pcfgs (F := F)) (p := 1) (D := fun _ => 0) (X := fun _ => iprop(emp)) (R := fun _ => iprop(emp)) (W := U2 m) (sub1 (F := F)) c)
set_option backward.isDefEq.respectTransparency.types false in
theorem reg1_post (c : Dev nD) : (reg1 m).post c ⊢ iprop(StableHlo.held (c : Thread nD τ) (Pipeline.ucRefs τ sig) (U3 m c) ∗ rest (F := F) c) :=
  by unfold reg1 rest; exact Entails.trans (RegionSeg.ofHeldIn_post (pcs := pcfgs (F := F)) (p := 1) (D := fun _ => 0) (Y := fun _ => iprop(emp)) (R := fun _ => iprop(emp)) (W := U2 m) (sub1 (F := F)) c) .rfl

/-! ## The launch -/

/-- @main's items. -/
abbrev items (c : Dev nD) : List (Seg (pcfgs (F := F)) adm (pdats m) () defs₀ Variants.none lvlIx lvl) :=
  segs m Variants.none lvlIx lvl (fun _ => rest (F := F)) () (pdats m) (reg0 m) (reg1 m) c

/-- The library's launch element. -/
def u₀ : UR sig nD τ := initOf (Pipeline.cells cfgs cellOf_inj) (Pipeline.launchToks cfgs cellOf_inj)

/-- What the final memory holds on core `c`. -/
def Final (c : Dev nD) (s : MemSt nD τ sig (Elt F)) : Prop :=
  s.mem ((c.tc : Thread nD τ).loc main_v2) = U3 m c main_v2
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)

set_option backward.isDefEq.respectTransparency.types false in
/-- From any memory with zero counters every weakly fair execution of @main terminates, each argument as launched, the result at `U3`, every counter zero. -/
theorem run : θ_run defs (onTc (τ := τ) (main (F := F))) ⟨m, fun _ => 0, ρ⟩ (fun r => (∀ c : Dev nD, Final m c r.2) ∧ r.2.sem = fun _ => 0) := by
  refine Pipeline.θ_run_regions_kit_dev_sems (pcfgs (F := F)) adm (pdats m) () cellOf_inj (emb₁ : Emb (UR sig nD τ) 𝕄) defs₀ Variants.none lvlIx lvl m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [items, segs, Seg.pipes_host, Seg.pipes_region, Seg.pipes_nil]; decide) (O₀ := 0) lvlIx_off (G := fun _ => iprop(emp)) u₀
    (by
      iintro Hu
      ihave H := (show (ownU (u₀ : UR sig nD τ) : sProp 𝕄) ⊢ BI.own ((emb₁ : Emb (UR sig nD τ) 𝕄) (initOf (Pipeline.cells cfgs cellOf_inj) (Pipeline.launchToks cfgs cellOf_inj))) from .rfl) $$ Hu
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest (F := F) c))
    (Tₙ := fun c => StableHlo.held (c : Thread nD τ) (Pipeline.ucRefs τ sig) (U3 m c))
    (hch := fun c => ⟨.rfl, reg0_pre m c, (reg0_post m c).trans (reg1_pre m c), (reg1_post m c).trans (sep_mono .rfl (by unfold rest; iintro ⟨H, -⟩; iexact H))⟩)
    (hinit := ?_) (QY := Final m)
    (hfin := fun c s' => ?_) (hQ := fun _ h hz => ⟨h, funext fun g => hz g (.inr (regions_no_unscoped g.2))⟩)
  · refine Pipeline.initEach lvlIx lvl fun c => ?_
    rw [show unscopedBufs c (fun b => m ((c : Thread nD τ).loc b)) = StableHlo.held (c : Thread nD τ) (Pipeline.ucRefs τ sig) (V0 m c) from Pipeline.unscopedBufs_held c (V0 m c)]
    unfold rest
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (U3 m c) s') $$ [Hh HSI]
    · isplitl [Hh] <;> iassumption
    icases Hr with ⟨%h, HSI⟩
    imodintro
    isplitr
    · ipureintro
      exact ⟨h (Proc.devRef .tc main_v2) (Finset.mem_filter.mpr ⟨StableHlo.devRef_mem_tcRefs main_v2, by decide⟩),
        (h (Proc.devRef .tc main_arg0) (Finset.mem_filter.mpr ⟨StableHlo.devRef_mem_tcRefs main_arg0, by decide⟩)).trans (U3_main_arg0 m c),
        (h (Proc.devRef .tc main_arg1) (Finset.mem_filter.mpr ⟨StableHlo.devRef_mem_tcRefs main_arg1, by decide⟩)).trans (U3_main_arg1 m c),
        (h (Proc.devRef .tc main_arg2) (Finset.mem_filter.mpr ⟨StableHlo.devRef_mem_tcRefs main_arg2, by decide⟩)).trans (U3_main_arg2 m c),
        (h (Proc.devRef .tc main_arg3) (Finset.mem_filter.mpr ⟨StableHlo.devRef_mem_tcRefs main_arg3, by decide⟩)).trans (U3_main_arg3 m c),
        (h (Proc.devRef .tc main_arg4) (Finset.mem_filter.mpr ⟨StableHlo.devRef_mem_tcRefs main_arg4, by decide⟩)).trans (U3_main_arg4 m c),
        (h (Proc.devRef .tc main_arg5) (Finset.mem_filter.mpr ⟨StableHlo.devRef_mem_tcRefs main_arg5, by decide⟩)).trans (U3_main_arg5 m c)⟩
    · iexact HSI

end Cert.Kernel.Hand

end
-- ==== Proof.KI.Body.lean ====
/-
  What one grid point of the first region (`cc0_rhs`) does to the buffers it is handed, by its four cases: the first
  step (only dequantise), a middle step without and with the output store, and the last step (only accumulate).
-/
module

public import proofs.«01_k».proof.Proof.Gen.KernelIdeal.Skeleton
public import proofs.«01_k».proof.Proof.Gen.KernelIdeal.Points
public import Idealize.ShloMosaic.Lib.VecWindow
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two scratch buffers: two slots of dequantised rows, and the four column tiles' accumulators. -/
abbrev wbM : Memref sig .tc .vmem S2x1024x3072 .bf16 := Memref.whole cc0_scratch0
abbrev accM : Memref sig .tc .vmem S4x1024x768 .f32 := Memref.whole cc0_scratch1

/-- The scratch buffers held at given values. -/
abbrev wbPt (c : Dev nD) (W : S2x1024x3072.Idx → Elt F .bf16) : sProp 𝕄 := wbM.view.loc (c : Thread nD τ) ↦{fullShare} W
abbrev accPt (c : Dev nD) (A : S4x1024x768.Idx → Elt F .f32) : sProp 𝕄 := accM.view.loc (c : Thread nD τ) ↦{fullShare} A

/-! ## The step's values -/

/-- Where a step writes its 256 dequantised rows. -/
abbrev putOff (i : grid0.Coords) : Fin 3 → ℕ := ![(i 0).val % 2, 256 * (i 1).val, 0]
/-- Where a step reads the slot the step before filled. -/
abbrev slotOff (i : grid0.Coords) : Fin 3 → ℕ := ![((i 0).val + 1) % 2, 0, 0]
/-- The column tile's rows of the Gram block that hold its diagonal, the tile's columns of the slot, and the tile's accumulator. -/
abbrev diagOff (i : grid0.Coords) : Fin 3 → ℕ := ![0, 768 * (i 1).val, 0]
abbrev colOff (i : grid0.Coords) : Fin 2 → ℕ := ![0, 768 * (i 1).val]
abbrev tileOff (i : grid0.Coords) : Fin 3 → ℕ := ![(i 1).val, 0, 0]

theorem slotOff_inb (i : grid0.Coords) : ∀ a, slotOff i a + S1x1024x3072.size a ≤ S2x1024x3072.size a := by
  intro a
  have := Nat.mod_lt ((i 0).val + 1) (show 0 < 2 by decide)
  fin_cases a
  · show ((i 0).val + 1) % 2 + 1 ≤ 2; omega
  · show 0 + 1024 ≤ 1024; omega
  · show 0 + 3072 ≤ 3072; omega
theorem diagOff_inb (i : grid0.Coords) : ∀ a, diagOff i a + S1x768x768.size a ≤ S1x3072x768.size a := by
  intro a
  have : (i 1).val < 4 := (i 1).isLt
  fin_cases a
  · show 0 + 1 ≤ 1; omega
  · show 768 * (i 1).val + 768 ≤ 3072; omega
  · show 0 + 768 ≤ 768; omega
theorem colOff_inb (i : grid0.Coords) : ∀ a, colOff i a + S1024x768.size a ≤ S1024x3072.size a := by
  intro a
  have : (i 1).val < 4 := (i 1).isLt
  fin_cases a
  · show 0 + 1024 ≤ 1024; omega
  · show 768 * (i 1).val + 768 ≤ 3072; omega
theorem tileOff_inb (i : grid0.Coords) : ∀ a, tileOff i a + S1x1024x768.size a ≤ S4x1024x768.size a := by
  intro a
  have : (i 1).val < 4 := (i 1).isLt
  fin_cases a
  · show (i 1).val + 1 ≤ 4; omega
  · show 0 + 1024 ≤ 1024; omega
  · show 0 + 768 ≤ 768; omega

theorem off4_eq : ∀ i : grid0.Coords, 0 < (i 0).val → k0_off4 i = slotOff i := by decide +kernel
theorem off5_eq : ∀ i : grid0.Coords, 0 < (i 0).val → k0_off5 i = slotOff i := by decide +kernel
theorem off10_eq : ∀ i : grid0.Coords, 0 < (i 0).val → k0_off10 i = slotOff i := by decide +kernel
theorem off11_eq : ∀ i : grid0.Coords, 0 < (i 0).val → k0_off11 i = slotOff i := by decide +kernel

/-- The 256 rows of codes `X2` dequantised by their scales `X3`, put in this step's slot. -/
def wPut (i : grid0.Coords) (X2 : S1x256x3072.Idx → Elt F .i8) (X3 : S1x256x1.Idx → Elt F .f32) (W : S2x1024x3072.Idx → Elt F .bf16) :
    S2x1024x3072.Idx → Elt F .bf16 := VecWindow.put W (putOff i) S1x256x3072.size (k0_pay14 (F := F) X3 X2)

/-- The slot the step before filled, as a matrix. -/
def slotMat (i : grid0.Coords) (W : S2x1024x3072.Idx → Elt F .bf16) : S1024x3072.Idx → Elt F .bf16 :=
  k0_pay16 (F := F) (VecWindow.window W (slotOff i) S1x1024x3072.size (slotOff_inb i))

/-- The accumulator tile after the step, from the dequantised matrix `M`, the Gram column block `X4` and the tile before it. -/
def accStep (i : grid0.Coords) (X4 : S1x3072x768.Idx → Elt F .bf16) (M : S1024x3072.Idx → Elt F .bf16) (prev : S1x1024x768.Idx → Elt F .f32) :
    S1x1024x768.Idx → Elt F .f32 :=
  k0_pay2 (F := F) (Scalar.remsi (Scalar.subi (BitVec.ofNat 32 (i 0).val) 1#32) 7#32)
    (k0_pay15 (F := F) (VecWindow.window X4 (diagOff i) S1x768x768.size (diagOff_inb i))) M (k0_pay17 (F := F) X4)
    (VecWindow.window M (colOff i) S1024x768.size (colOff_inb i)) prev

/-- The step's accumulator tile in buffer `A`. -/
def tileOf (i : grid0.Coords) (A : S4x1024x768.Idx → Elt F .f32) : S1x1024x768.Idx → Elt F .f32 :=
  VecWindow.window A (tileOff i) S1x1024x768.size (tileOff_inb i)

/-- The accumulators after the step. -/
def aPut (i : grid0.Coords) (T : S1x1024x768.Idx → Elt F .f32) (A : S4x1024x768.Idx → Elt F .f32) : S4x1024x768.Idx → Elt F .f32 :=
  VecWindow.put A (tileOff i) S1x1024x768.size T

theorem tileOf_aPut (i : grid0.Coords) (T : S1x1024x768.Idx → Elt F .f32) (A : S4x1024x768.Idx → Elt F .f32) : tileOf i (aPut i T A) = T :=
  VecWindow.window_put_same _ _ _ _ _

/-! ## Loads and stores of the scratch buffers, by values -/

/-- A block stored at an offset is put there. -/
theorem put_store {S : Shape} {e : EltTy} (m : Memref sig .tc .vmem S e) (f : m.view.ty.Contents (Elt F)) {off off' size : Fin S.rank → ℕ}
    (inb : ∀ a, off a + size a ≤ S.size a) (h : off = off') (w : (Rect.unit (s := S) off size inb).shape.Idx → Elt F e) :
    m.view.read (Elt F) (View.write (Elt F) (m.access (Rect.unit (s := S) off size inb)) f w Finset.univ) = VecWindow.put (m.view.read (Elt F) f) off' size w :=
  View.read_writes_cons_put (Val := Elt F) m.view f inb w [] h

/-- Rows stored into the slot buffer are put there. -/
theorem wb_write (W : S2x1024x3072.Idx → Elt F .bf16) {off off' : Fin 3 → ℕ} (inb : ∀ a, off a + S1x256x3072.size a ≤ S2x1024x3072.size a) (h : off = off')
    (w : S1x256x3072.Idx → Elt F .bf16) :
    View.write (Elt F) (wbM.access (Rect.unit (s := S2x1024x3072) off S1x256x3072.size inb)) W w Finset.univ = VecWindow.put W off' S1x256x3072.size w := by
  have := put_store wbM W inb h w
  rw [View.read_whole, View.read_whole] at this
  exact this

/-- A tile stored into the accumulators is put there. -/
theorem acc_write (A : S4x1024x768.Idx → Elt F .f32) {off off' : Fin 3 → ℕ} (inb : ∀ a, off a + S1x1024x768.size a ≤ S4x1024x768.size a) (h : off = off')
    (w : S1x1024x768.Idx → Elt F .f32) :
    View.write (Elt F) (accM.access (Rect.unit (s := S4x1024x768) off S1x1024x768.size inb)) A w Finset.univ = VecWindow.put A off' S1x1024x768.size w := by
  have := put_store accM A inb h w
  rw [View.read_whole, View.read_whole] at this
  exact this

/-- A tile of the accumulators, loaded. -/
theorem acc_load (A : S4x1024x768.Idx → Elt F .f32) (i : grid0.Coords) {off : Fin 3 → ℕ} (inb : ∀ a, off a + S1x1024x768.size a ≤ S4x1024x768.size a) (h : off = tileOff i) :
    View.readAt (Elt F) accM.view (Rect.unit (s := S4x1024x768) off S1x1024x768.size inb).toLoadRect A = tileOf i A :=
  View.readAt_unit (Val := Elt F) accM.view A inb h (tileOff_inb i)

/-- The slot, loaded, as a matrix. -/
theorem slot_load (W : S2x1024x3072.Idx → Elt F .bf16) (i : grid0.Coords) {off : Fin 3 → ℕ} (inb : ∀ a, off a + S1x1024x3072.size a ≤ S2x1024x3072.size a) (h : off = slotOff i) :
    k0_pay16 (F := F) (View.readAt (Elt F) wbM.view (Rect.unit (s := S2x1024x3072) off S1x1024x3072.size inb).toLoadRect W) = slotMat i W :=
  congrArg (k0_pay16 (F := F)) (View.readAt_unit (Val := Elt F) wbM.view W inb h (slotOff_inb i))

/-- The slot's columns, loaded through the slot's own view. -/
theorem cols_load (W : S2x1024x3072.Idx → Elt F .bf16) (i : grid0.Coords) {off : Fin 3 → ℕ} (inb : ∀ a, off a + S1x1024x3072.size a ≤ S2x1024x3072.size a) (h : off = slotOff i)
    {off2 : Fin 2 → ℕ} (inb2 : ∀ a, off2 a + S1024x768.size a ≤ S1024x3072.size a) (h2 : off2 = colOff i) :
    View.readAt (Elt F) ((wbM.slice (Rect.unit (s := S2x1024x3072) off S1x1024x3072.size inb) (fun _ => rfl)).squeeze S1024x3072 squeezes_S1x1024x3072_S1024x3072).view
        (Rect.unit (s := S1024x3072) off2 S1024x768.size inb2).toLoadRect W
      = VecWindow.window (slotMat i W) (colOff i) S1024x768.size (colOff_inb i) := by
  subst h; subst h2; rfl

/-- The diagonal square of the Gram block, loaded. -/
theorem diag_load (m : Memref sig .tc .vmem S1x3072x768 .bf16) (f : m.view.ty.Contents (Elt F)) (X : S1x3072x768.Idx → Elt F .bf16) (hX : m.view.read (Elt F) f = X)
    (i : grid0.Coords) {off : Fin 3 → ℕ} (inb : ∀ a, off a + S1x768x768.size a ≤ S1x3072x768.size a) (h : off = diagOff i) :
    View.readAt (Elt F) m.view (Rect.unit (s := S1x3072x768) off S1x768x768.size inb).toLoadRect f = VecWindow.window X (diagOff i) S1x768x768.size (diagOff_inb i) := by
  subst hX; exact View.readAt_unit (Val := Elt F) m.view f inb h (diagOff_inb i)

/-- A whole block, loaded. -/
theorem full_load {S : Shape} {e : EltTy} (m : Memref sig .tc .vmem S e) (f : m.view.ty.Contents (Elt F)) (X : S.Idx → Elt F e) (hX : m.view.read (Elt F) f = X)
    {off : Fin S.rank → ℕ} (inb : ∀ a, off a + S.size a ≤ S.size a) :
    View.readAt (Elt F) m.view (Rect.unit (s := S) off S.size inb).toLoadRect f = X := by
  subst hX; exact View.readAt_full (Val := Elt F) m.view f inb

/-- A whole block, stored. -/
theorem full_store {S : Shape} {e : EltTy} (m : Memref sig .tc .vmem S e) (f : m.view.ty.Contents (Elt F))
    {off : Fin S.rank → ℕ} (inb : ∀ a, off a + S.size a ≤ S.size a) (w w' : S.Idx → Elt F e) (hw : w = w') :
    m.view.read (Elt F) (View.write (Elt F) (m.access (Rect.unit (s := S) off S.size inb)) f w Finset.univ) = w' := by
  subst hw; exact View.read_writes_full (Val := Elt F) m.view f inb w []

/-! ## The cases -/

/-- The first step: dequantise into the slot, nothing else. -/
theorem run_first (c : Dev nD) (i : grid0.Coords)
    (arg2 : Memref sig .tc .vmem S1x256x3072 .i8) (h2 : arg2.IsWhole) (arg3 : Memref sig .tc .vmem S1x256x1 .f32) (h3 : arg3.IsWhole)
    (arg4 : Memref sig .tc .vmem S1x3072x768 .bf16) (h4 : arg4.IsWhole) (arg5 : Memref sig .tc .vmem S1024x768 .bf16) (h5 : arg5.IsWhole)
    (arg6 : Memref sig .tc .vmem S1024x768 .bf16) (h6 : arg6.IsWhole) (arg7 : Memref sig .tc .vmem S1024x768 .bf16) (h7 : arg7.IsWhole)
    (hc1 : k0_cond1 i = 1#1) (hc2 : ¬ k0_cond2 i = 1#1) (hc4 : ¬ k0_cond4 i = 1#1)
    (X2 : S1x256x3072.Idx → Elt F .i8) (X3 : S1x256x1.Idx → Elt F .f32)
    (W : S2x1024x3072.Idx → Elt F .bf16) (Q : PUnit → sProp 𝕄) :
    iprop(owns (c : Thread nD τ) arg2 fullShare X2 ∗ owns (c : Thread nD τ) arg3 fullShare X3 ∗ wbPt c W
      ∗ (iprop(owns (c : Thread nD τ) arg2 fullShare X2 ∗ owns (c : Thread nD τ) arg3 fullShare X3 ∗ wbPt c (wPut i X2 X3 W)) -∗ Q ⟨⟩))
    ⊢ wp frame (wpE (defs₀ (F := F)) Variants.none c none) Set.univ
        (cc0_rhs i arg2 h2 arg3 h3 arg4 h4 arg5 h5 arg6 h6 arg7 h7 wbM (Memref.isWhole_whole _) accM (Memref.isWhole_whole _)) Q := by
  simp only [cc0_rhs_eq_skeleton]; unfold cc0_rhs_skel
  unfold owns
  iintro ⟨⟨%f2, %e2, H2⟩, ⟨%f3, %e3, H3⟩, H8, Hk⟩
  rw [dif_pos hc1, dif_neg hc2, dif_neg hc4]
  simp only [bind_assoc, Prog.bind_lift, Prog.pure_eq_ret, Prog.bind_ret, Prog.bind_op]
  sl_steps
  iapply Hk
  isplitl [H2]
  · iexists f2; isplit; · ipureintro; exact e2
    iexact H2
  isplitl [H3]
  · iexists f3; isplit; · ipureintro; exact e3
    iexact H3
  istop
  refine Entails.of_eq (congrArg (wbPt (F := F) c) ?_)
  refine (wb_write W _ (k0_off1_eq i) _).trans ?_
  exact congrArg (VecWindow.put W (putOff i) S1x256x3072.size) (congrArg₂ (k0_pay1 (F := F)) (full_load arg3 f3 X3 e3 _) (full_load arg2 f2 X2 e2 _))

/-- A middle step without the output store: dequantise into this step's slot, accumulate from the slot before. -/
theorem run_mid (c : Dev nD) (i : grid0.Coords)
    (arg2 : Memref sig .tc .vmem S1x256x3072 .i8) (h2 : arg2.IsWhole) (arg3 : Memref sig .tc .vmem S1x256x1 .f32) (h3 : arg3.IsWhole)
    (arg4 : Memref sig .tc .vmem S1x3072x768 .bf16) (h4 : arg4.IsWhole) (arg5 : Memref sig .tc .vmem S1024x768 .bf16) (h5 : arg5.IsWhole)
    (arg6 : Memref sig .tc .vmem S1024x768 .bf16) (h6 : arg6.IsWhole) (arg7 : Memref sig .tc .vmem S1024x768 .bf16) (h7 : arg7.IsWhole)
    (hpos : 0 < (i 0).val) (hc1 : ¬ k0_cond1 i = 1#1) (hc2 : k0_cond2 i = 1#1) (hc3 : ¬ k0_cond3 i = 1#1) (hc4 : ¬ k0_cond4 i = 1#1)
    (X2 : S1x256x3072.Idx → Elt F .i8) (X3 : S1x256x1.Idx → Elt F .f32) (X4 : S1x3072x768.Idx → Elt F .bf16)
    (W : S2x1024x3072.Idx → Elt F .bf16) (A : S4x1024x768.Idx → Elt F .f32) (Q : PUnit → sProp 𝕄) :
    iprop(owns (c : Thread nD τ) arg2 fullShare X2 ∗ owns (c : Thread nD τ) arg3 fullShare X3 ∗ owns (c : Thread nD τ) arg4 fullShare X4 ∗ wbPt c W ∗ accPt c A
      ∗ (iprop(owns (c : Thread nD τ) arg2 fullShare X2 ∗ owns (c : Thread nD τ) arg3 fullShare X3 ∗ owns (c : Thread nD τ) arg4 fullShare X4 ∗ wbPt c (wPut i X2 X3 W) ∗ accPt c (aPut i (accStep i X4 (slotMat i (wPut i X2 X3 W)) (tileOf i A)) A)) -∗ Q ⟨⟩))
    ⊢ wp frame (wpE (defs₀ (F := F)) Variants.none c none) Set.univ
        (cc0_rhs i arg2 h2 arg3 h3 arg4 h4 arg5 h5 arg6 h6 arg7 h7 wbM (Memref.isWhole_whole _) accM (Memref.isWhole_whole _)) Q := by
  simp only [cc0_rhs_eq_skeleton]; unfold cc0_rhs_skel
  unfold owns
  iintro ⟨⟨%f2, %e2, H2⟩, ⟨%f3, %e3, H3⟩, ⟨%f4, %e4, H4⟩, H8, H9, Hk⟩
  rw [dif_neg hc1, dif_pos hc2, dif_neg hc4]
  simp only [k0_part1_eq_skeleton]; unfold k0_part1_skel
  simp only [bind_assoc, Prog.bind_lift, Prog.pure_eq_ret, Prog.bind_ret, Prog.bind_op]
  rw [dif_neg hc3]
  sl_steps
  iapply Hk
  isplitl [H2]
  · iexists f2; isplit; · ipureintro; exact e2
    iexact H2
  isplitl [H3]
  · iexists f3; isplit; · ipureintro; exact e3
    iexact H3
  isplitl [H4]
  · iexists f4; isplit; · ipureintro; exact e4
    iexact H4
  have hW : VecWindow.put W (putOff i) S1x256x3072.size (k0_pay14 (F := F) (View.readAt (Elt F) arg3.view (Rect.unit (s := S1x256x1) ![0, 0, 0] S1x256x1.size inb_S1x256x1_S1x256x1_0_0_0).toLoadRect f3)
      (View.readAt (Elt F) arg2.view (Rect.unit (s := S1x256x3072) ![0, 0, 0] S1x256x3072.size inb_S1x256x3072_S1x256x3072_0_0_0).toLoadRect f2)) = wPut i X2 X3 W :=
    congrArg (VecWindow.put W (putOff i) S1x256x3072.size) (congrArg₂ (k0_pay14 (F := F)) (full_load arg3 f3 X3 e3 _) (full_load arg2 f2 X2 e2 _))
  have hT : k0_pay2 (F := F) (Scalar.remsi (Scalar.subi (BitVec.ofNat 32 (i 0).val) 1#32) 7#32)
      (k0_pay15 (View.readAt (Elt F) arg4.view (Rect.unit (s := S1x3072x768) (k0_off3 i) S1x768x768.size (k0_off3_inb i hc2)).toLoadRect f4))
      (k0_pay16 (View.readAt (Elt F) wbM.view (Rect.unit (s := S2x1024x3072) (k0_off4 i) S1x1024x3072.size (k0_off4_inb i hc2)).toLoadRect (wPut i X2 X3 W)))
      (k0_pay17 (View.readAt (Elt F) arg4.view (Rect.unit (s := S1x3072x768) ![0, 0, 0] S1x3072x768.size inb_S1x3072x768_S1x3072x768_0_0_0).toLoadRect f4))
      (View.readAt (Elt F) ((wbM.slice (Rect.unit (s := S2x1024x3072) (k0_off5 i) S1x1024x3072.size (k0_off5_inb i hc2)) (fun _ => rfl)).squeeze S1024x3072 squeezes_S1x1024x3072_S1024x3072).view
        (Rect.unit (s := S1024x3072) (k0_off6 i) S1024x768.size (k0_off6_inb i hc2)).toLoadRect (wPut i X2 X3 W))
      (View.readAt (Elt F) accM.view (Rect.unit (s := S4x1024x768) (k0_off7 i) S1x1024x768.size (k0_off7_inb i hc2)).toLoadRect A)
      = (accStep i X4 (slotMat i (wPut i X2 X3 W)) (tileOf i A)) := by
    rw [diag_load arg4 f4 X4 e4 i _ (k0_off3_eq i), slot_load (wPut i X2 X3 W) i _ (off4_eq i hpos), full_load arg4 f4 X4 e4,
      cols_load (wPut i X2 X3 W) i _ (off5_eq i hpos) _ (k0_off6_eq i), acc_load A i _ (k0_off7_eq i)]
    rfl
  istop
  simp only [wb_write W _ (k0_off2_eq i), hW]
  simp only [hT, acc_write A _ (k0_off7_eq i)]
  exact Entails.rfl

/-- A middle step with the output store: as `run_mid`, and the finished tile, split in three, goes to the three output blocks. -/
theorem run_midflush (c : Dev nD) (i : grid0.Coords)
    (arg2 : Memref sig .tc .vmem S1x256x3072 .i8) (h2 : arg2.IsWhole) (arg3 : Memref sig .tc .vmem S1x256x1 .f32) (h3 : arg3.IsWhole)
    (arg4 : Memref sig .tc .vmem S1x3072x768 .bf16) (h4 : arg4.IsWhole) (arg5 : Memref sig .tc .vmem S1024x768 .bf16) (h5 : arg5.IsWhole)
    (arg6 : Memref sig .tc .vmem S1024x768 .bf16) (h6 : arg6.IsWhole) (arg7 : Memref sig .tc .vmem S1024x768 .bf16) (h7 : arg7.IsWhole)
    (hpos : 0 < (i 0).val) (hc1 : ¬ k0_cond1 i = 1#1) (hc2 : k0_cond2 i = 1#1) (hc3 : k0_cond3 i = 1#1) (hc4 : ¬ k0_cond4 i = 1#1)
    (X2 : S1x256x3072.Idx → Elt F .i8) (X3 : S1x256x1.Idx → Elt F .f32) (X4 : S1x3072x768.Idx → Elt F .bf16) (X5 : S1024x768.Idx → Elt F .bf16) (X6 : S1024x768.Idx → Elt F .bf16) (X7 : S1024x768.Idx → Elt F .bf16)
    (W : S2x1024x3072.Idx → Elt F .bf16) (A : S4x1024x768.Idx → Elt F .f32) (Q : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ wbPt c W ∗ accPt c A
      ∗ (iprop(owns (c : Thread nD τ) arg2 fullShare X2 ∗ owns (c : Thread nD τ) arg3 fullShare X3 ∗ owns (c : Thread nD τ) arg4 fullShare X4 ∗ owns (c : Thread nD τ) arg5 fullShare (k0_pay4 (F := F) (accStep i X4 (slotMat i (wPut i X2 X3 W)) (tileOf i A))) ∗ owns (c : Thread nD τ) arg6 fullShare (k0_pay6 (F := F) (accStep i X4 (slotMat i (wPut i X2 X3 W)) (tileOf i A))) ∗ owns (c : Thread nD τ) arg7 fullShare (k0_pay7 (F := F) (accStep i X4 (slotMat i (wPut i X2 X3 W)) (tileOf i A))) ∗ wbPt c (wPut i X2 X3 W) ∗ accPt c (aPut i (accStep i X4 (slotMat i (wPut i X2 X3 W)) (tileOf i A)) A)) -∗ Q ⟨⟩))
    ⊢ wp frame (wpE (defs₀ (F := F)) Variants.none c none) Set.univ
        (cc0_rhs i arg2 h2 arg3 h3 arg4 h4 arg5 h5 arg6 h6 arg7 h7 wbM (Memref.isWhole_whole _) accM (Memref.isWhole_whole _)) Q := by
  simp only [cc0_rhs_eq_skeleton]; unfold cc0_rhs_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, H8, H9, Hk⟩
  rw [dif_neg hc1, dif_pos hc2, dif_neg hc4]
  simp only [k0_part1_eq_skeleton]; unfold k0_part1_skel
  simp only [bind_assoc, Prog.bind_lift, Prog.pure_eq_ret, Prog.bind_ret, Prog.bind_op]
  rw [dif_pos hc3]
  sl_steps
  iapply Hk
  isplitl [H2]
  · iexists f2; isplit; · ipureintro; exact e2
    iexact H2
  isplitl [H3]
  · iexists f3; isplit; · ipureintro; exact e3
    iexact H3
  isplitl [H4]
  · iexists f4; isplit; · ipureintro; exact e4
    iexact H4
  have hW : VecWindow.put W (putOff i) S1x256x3072.size (k0_pay14 (F := F) (View.readAt (Elt F) arg3.view (Rect.unit (s := S1x256x1) ![0, 0, 0] S1x256x1.size inb_S1x256x1_S1x256x1_0_0_0).toLoadRect f3)
      (View.readAt (Elt F) arg2.view (Rect.unit (s := S1x256x3072) ![0, 0, 0] S1x256x3072.size inb_S1x256x3072_S1x256x3072_0_0_0).toLoadRect f2)) = wPut i X2 X3 W :=
    congrArg (VecWindow.put W (putOff i) S1x256x3072.size) (congrArg₂ (k0_pay14 (F := F)) (full_load arg3 f3 X3 e3 _) (full_load arg2 f2 X2 e2 _))
  have hT : k0_pay2 (F := F) (Scalar.remsi (Scalar.subi (BitVec.ofNat 32 (i 0).val) 1#32) 7#32)
      (k0_pay15 (View.readAt (Elt F) arg4.view (Rect.unit (s := S1x3072x768) (k0_off3 i) S1x768x768.size (k0_off3_inb i hc2)).toLoadRect f4))
      (k0_pay16 (View.readAt (Elt F) wbM.view (Rect.unit (s := S2x1024x3072) (k0_off4 i) S1x1024x3072.size (k0_off4_inb i hc2)).toLoadRect (wPut i X2 X3 W)))
      (k0_pay17 (View.readAt (Elt F) arg4.view (Rect.unit (s := S1x3072x768) ![0, 0, 0] S1x3072x768.size inb_S1x3072x768_S1x3072x768_0_0_0).toLoadRect f4))
      (View.readAt (Elt F) ((wbM.slice (Rect.unit (s := S2x1024x3072) (k0_off5 i) S1x1024x3072.size (k0_off5_inb i hc2)) (fun _ => rfl)).squeeze S1024x3072 squeezes_S1x1024x3072_S1024x3072).view
        (Rect.unit (s := S1024x3072) (k0_off6 i) S1024x768.size (k0_off6_inb i hc2)).toLoadRect (wPut i X2 X3 W))
      (View.readAt (Elt F) accM.view (Rect.unit (s := S4x1024x768) (k0_off7 i) S1x1024x768.size (k0_off7_inb i hc2)).toLoadRect A)
      = (accStep i X4 (slotMat i (wPut i X2 X3 W)) (tileOf i A)) := by
    rw [diag_load arg4 f4 X4 e4 i _ (k0_off3_eq i), slot_load (wPut i X2 X3 W) i _ (off4_eq i hpos), full_load arg4 f4 X4 e4,
      cols_load (wPut i X2 X3 W) i _ (off5_eq i hpos) _ (k0_off6_eq i), acc_load A i _ (k0_off7_eq i)]
    rfl
  isplitl [H5]
  · iexists _; isplit
    rotate_left
    · iexact H5
    · ipureintro
      refine full_store arg5 f5 _ _ _ (congrArg (k0_pay4 (F := F)) ?_)
      simp only [wb_write W _ (k0_off2_eq i), hW]
      simp only [hT, acc_write A _ (k0_off7_eq i)]
      exact (acc_load _ i _ (k0_off8_eq i)).trans (tileOf_aPut i _ A)
  isplitl [H6]
  · iexists _; isplit
    rotate_left
    · iexact H6
    · ipureintro
      refine full_store arg6 f6 _ _ _ (congrArg (k0_pay6 (F := F)) ?_)
      simp only [wb_write W _ (k0_off2_eq i), hW]
      simp only [hT, acc_write A _ (k0_off7_eq i)]
      exact (acc_load _ i _ (k0_off8_eq i)).trans (tileOf_aPut i _ A)
  isplitl [H7]
  · iexists _; isplit
    rotate_left
    · iexact H7
    · ipureintro
      refine full_store arg7 f7 _ _ _ (congrArg (k0_pay7 (F := F)) ?_)
      simp only [wb_write W _ (k0_off2_eq i), hW]
      simp only [hT, acc_write A _ (k0_off7_eq i)]
      exact (acc_load _ i _ (k0_off8_eq i)).trans (tileOf_aPut i _ A)
  istop
  simp only [wb_write W _ (k0_off2_eq i), hW]
  simp only [hT, acc_write A _ (k0_off7_eq i)]
  exact Entails.rfl

/-- The last step: accumulate from the slot before and store the finished tile, split in three, to the three output blocks. -/
theorem run_last (c : Dev nD) (i : grid0.Coords)
    (arg2 : Memref sig .tc .vmem S1x256x3072 .i8) (h2 : arg2.IsWhole) (arg3 : Memref sig .tc .vmem S1x256x1 .f32) (h3 : arg3.IsWhole)
    (arg4 : Memref sig .tc .vmem S1x3072x768 .bf16) (h4 : arg4.IsWhole) (arg5 : Memref sig .tc .vmem S1024x768 .bf16) (h5 : arg5.IsWhole)
    (arg6 : Memref sig .tc .vmem S1024x768 .bf16) (h6 : arg6.IsWhole) (arg7 : Memref sig .tc .vmem S1024x768 .bf16) (h7 : arg7.IsWhole)
    (hpos : 0 < (i 0).val) (hc1 : ¬ k0_cond1 i = 1#1) (hc2 : ¬ k0_cond2 i = 1#1) (hc4 : k0_cond4 i = 1#1) (hc5 : k0_cond5 i = 1#1)
    (X4 : S1x3072x768.Idx → Elt F .bf16) (X5 : S1024x768.Idx → Elt F .bf16) (X6 : S1024x768.Idx → Elt F .bf16) (X7 : S1024x768.Idx → Elt F .bf16)
    (W : S2x1024x3072.Idx → Elt F .bf16) (A : S4x1024x768.Idx → Elt F .f32) (Q : PUnit → sProp 𝕄) :
    iprop(owns (c : Thread nD τ) arg4 fullShare X4 ∗ owns (c : Thread nD τ) arg5 fullShare X5 ∗ owns (c : Thread nD τ) arg6 fullShare X6 ∗ owns (c : Thread nD τ) arg7 fullShare X7 ∗ wbPt c W ∗ accPt c A
      ∗ (iprop(owns (c : Thread nD τ) arg4 fullShare X4 ∗ owns (c : Thread nD τ) arg5 fullShare (k0_pay4 (F := F) (accStep i X4 (slotMat i W) (tileOf i A))) ∗ owns (c : Thread nD τ) arg6 fullShare (k0_pay6 (F := F) (accStep i X4 (slotMat i W) (tileOf i A))) ∗ owns (c : Thread nD τ) arg7 fullShare (k0_pay7 (F := F) (accStep i X4 (slotMat i W) (tileOf i A))) ∗ wbPt c W ∗ accPt c (aPut i (accStep i X4 (slotMat i W) (tileOf i A)) A)) -∗ Q ⟨⟩))
    ⊢ wp frame (wpE (defs₀ (F := F)) Variants.none c none) Set.univ
        (cc0_rhs i arg2 h2 arg3 h3 arg4 h4 arg5 h5 arg6 h6 arg7 h7 wbM (Memref.isWhole_whole _) accM (Memref.isWhole_whole _)) Q := by
  simp only [cc0_rhs_eq_skeleton]; unfold cc0_rhs_skel
  unfold owns
  iintro ⟨⟨%f4, %e4, H4⟩, ⟨%f5, %e5, H5⟩, ⟨%f6, %e6, H6⟩, ⟨%f7, %e7, H7⟩, H8, H9, Hk⟩
  rw [dif_neg hc1, dif_neg hc2, dif_pos hc4]
  simp only [k0_part2_eq_skeleton]; unfold k0_part2_skel
  simp only [bind_assoc, Prog.bind_lift, Prog.pure_eq_ret, Prog.bind_ret, Prog.bind_op]
  rw [dif_pos hc5]
  sl_steps
  iapply Hk
  isplitl [H4]
  · iexists f4; isplit; · ipureintro; exact e4
    iexact H4
  have hT : k0_pay8 (F := F) (k0_pay18 (View.readAt (Elt F) arg4.view (Rect.unit (s := S1x3072x768) (k0_off9 i) S1x768x768.size (k0_off9_inb i hc4)).toLoadRect f4)
      (View.readAt (Elt F) wbM.view (Rect.unit (s := S2x1024x3072) (k0_off10 i) S1x1024x3072.size (k0_off10_inb i hc4)).toLoadRect W)
      (View.readAt (Elt F) arg4.view (Rect.unit (s := S1x3072x768) ![0, 0, 0] S1x3072x768.size inb_S1x3072x768_S1x3072x768_0_0_0).toLoadRect f4)
      (View.readAt (Elt F) ((wbM.slice (Rect.unit (s := S2x1024x3072) (k0_off11 i) S1x1024x3072.size (k0_off11_inb i hc4)) (fun _ => rfl)).squeeze S1024x3072 squeezes_S1x1024x3072_S1024x3072).view
        (Rect.unit (s := S1024x3072) (k0_off12 i) S1024x768.size (k0_off12_inb i hc4)).toLoadRect W))
      (Scalar.cmpi .eq (Scalar.remsi (Scalar.subi (BitVec.ofNat 32 (i 0).val) 1#32) 7#32) 0#32)
      (View.readAt (Elt F) accM.view (Rect.unit (s := S4x1024x768) (k0_off13 i) S1x1024x768.size (k0_off13_inb i hc4)).toLoadRect A)
      = (accStep i X4 (slotMat i W) (tileOf i A)) := by
    rw [diag_load arg4 f4 X4 e4 i _ (k0_off9_eq i), full_load arg4 f4 X4 e4,
      cols_load W i _ (off11_eq i hpos) _ (k0_off12_eq i), acc_load A i _ (k0_off13_eq i),
      View.readAt_unit (Val := Elt F) wbM.view W _ (off10_eq i hpos) (slotOff_inb i)]
    rfl
  isplitl [H5]
  · iexists _; isplit
    rotate_left
    · iexact H5
    · ipureintro
      refine full_store arg5 f5 _ _ _ (congrArg (k0_pay10 (F := F)) ?_)
      simp only [hT, acc_write A _ (k0_off13_eq i)]
      exact (acc_load _ i _ (k0_off14_eq i)).trans (tileOf_aPut i _ A)
  isplitl [H6]
  · iexists _; isplit
    rotate_left
    · iexact H6
    · ipureintro
      refine full_store arg6 f6 _ _ _ (congrArg (k0_pay12 (F := F)) ?_)
      simp only [hT, acc_write A _ (k0_off13_eq i)]
      exact (acc_load _ i _ (k0_off14_eq i)).trans (tileOf_aPut i _ A)
  isplitl [H7]
  · iexists _; isplit
    rotate_left
    · iexact H7
    · ipureintro
      refine full_store arg7 f7 _ _ _ (congrArg (k0_pay13 (F := F)) ?_)
      simp only [hT, acc_write A _ (k0_off13_eq i)]
      exact (acc_load _ i _ (k0_off14_eq i)).trans (tileOf_aPut i _ A)
  istop
  simp only [hT, acc_write A _ (k0_off13_eq i)]
  exact Entails.rfl

end Cert.KernelIdeal.Hand

end
-- ==== Proof.KI.Spec.lean ====
/-
  What the first region's two scratch buffers hold between grid points, in closed form: point `n = 4 t + i` is row/model step
  `t`, column tile `i`. Step `t` fills slot `t % 2` with 1024 dequantised rows, a quarter per tile; step `t + 1` reads that
  slot whole and adds one model's product into each tile's accumulator.
-/
module

public import proofs.«01_k».proof.Proof.KI.Body
public import proofs.«01_k».proof.Proof.Gen.KernelIdeal.Launch
public import Idealize.ShloMosaic.Lib.ValueIdxCore
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-! ## Points and conditions -/

/-- A grid point's two coordinates. -/
theorem coords_val : ∀ t : Fin grid0.N, ((grid0.coords t) 0).val = t.val / 4 ∧ ((grid0.coords t) 1).val = t.val % 4 := by decide +kernel

theorem cond1_iff : ∀ i : grid0.Coords, k0_cond1 i = 1#1 ↔ (i 0).val = 0 := by decide +kernel
theorem cond2_iff : ∀ i : grid0.Coords, k0_cond2 i = 1#1 ↔ (0 < (i 0).val ∧ (i 0).val < 84) := by decide +kernel
theorem cond3_iff : ∀ i : grid0.Coords, 0 < (i 0).val → (k0_cond3 i = 1#1 ↔ (i 0).val % 7 = 0) := by decide +kernel
theorem cond4_iff : ∀ i : grid0.Coords, k0_cond4 i = 1#1 ↔ (i 0).val = 84 := by decide +kernel
theorem cond5_iff : ∀ i : grid0.Coords, (i 0).val = 84 → k0_cond5 i = 1#1 := by decide +kernel

/-- The first model of a row block: the accumulator read is not used. -/
theorem first_model : ∀ i : grid0.Coords, 0 < (i 0).val → ((i 0).val - 1) % 7 = 0 →
    Scalar.cmpi .eq (Scalar.remsi (Scalar.subi (BitVec.ofNat 32 (i 0).val) 1#32) 7#32) 0#32 = 1#1 := by decide +kernel

/-- Linear point `n` of the grid. -/
def pt (n : ℕ) : Fin grid0.N := ⟨n % 340, Nat.lt_of_lt_of_eq (Nat.mod_lt _ (by decide)) N_0.symm⟩

theorem pt_val (t : Fin grid0.N) : pt t.val = t := Fin.ext (Nat.mod_eq_of_lt (Nat.lt_of_lt_of_eq t.isLt N_0))

/-! ## The values -/

section Values

variable (B0 : Fin grid0.N → S1x256x3072.Idx → Elt F .i8) (B1 : Fin grid0.N → S1x256x1.Idx → Elt F .f32)
  (B2 : Fin grid0.N → S1x3072x768.Idx → Elt F .bf16)

/-- The 256 rows dequantised at point `n`. -/
def chunk (n : ℕ) : S1x256x3072.Idx → Elt F .bf16 := k0_pay14 (F := F) (B1 (pt n)) (B0 (pt n))

/-- Row `r`, column `k` of the 1024 rows that step `t` dequantises. -/
def wbAt (t : ℕ) (r : Fin 1024) (k : Fin 3072) : Elt F .bf16 :=
  chunk B0 B1 (4 * t + r.val / 256) (ix3 (0 : Fin 1) (⟨r.val % 256, Nat.mod_lt _ (by decide)⟩ : Fin 256) k)

/-- The 1024 rows that step `t` dequantises. -/
def wbMat (t : ℕ) : S1024x3072.Idx → Elt F .bf16 := fun j => wbAt B0 B1 t (j 0) (j 1)

/-- The accumulator of column tile `i` after step `t`. -/
def accV : ℕ → ℕ → S1x1024x768.Idx → Elt F .f32
  | 0, _ => fun _ => Scalar.ofBits .f32 0#32
  | t + 1, i => accStep (grid0.coords (pt (4 * (t + 1) + i))) (B2 (pt (4 * (t + 1) + i))) (wbMat B0 B1 t) (accV t i)

end Values

/-! ## The invariant -/

/-- Tile `k` of the accumulators. -/
def tileAt (k : Fin 4) (A : S4x1024x768.Idx → Elt F .f32) : S1x1024x768.Idx → Elt F .f32 := fun y => A (ix3 k (y 1) (y 2))

theorem tileOf_eq (i : grid0.Coords) (A : S4x1024x768.Idx → Elt F .f32) : tileOf i A = tileAt (i 1) A := by
  funext y
  refine congrArg A (funext fun a => Fin.ext ?_)
  have h0 : (y 0).val < 1 := (y 0).isLt
  match a with
  | ⟨0, _⟩ => show (i 1).val + 1 * (y 0).val = (i 1).val; omega
  | ⟨1, _⟩ => show 0 + 1 * (y 1).val = (y 1).val; omega
  | ⟨2, _⟩ => show 0 + 1 * (y 2).val = (y 2).val; omega

theorem tileAt_aPut_same (i : grid0.Coords) (T : S1x1024x768.Idx → Elt F .f32) (A : S4x1024x768.Idx → Elt F .f32) : tileAt (i 1) (aPut i T A) = T := by
  rw [← tileOf_eq]; exact tileOf_aPut i T A

theorem tileAt_aPut_ne (i : grid0.Coords) (k : Fin 4) (hk : k ≠ i 1) (T : S1x1024x768.Idx → Elt F .f32) (A : S4x1024x768.Idx → Elt F .f32) :
    tileAt k (aPut i T A) = tileAt k A := by
  funext y
  show (VecWindow.put A (tileOff i) S1x1024x768.size T) (ix3 k (y 1) (y 2)) = _
  unfold VecWindow.put
  rw [dif_neg]
  · rfl
  · intro h
    have h0 := h 0
    have e1 : (i 1).val ≤ k.val := h0.1
    have e2 : k.val < (i 1).val + 1 := h0.2
    exact hk (Fin.ext (by omega))

section Inv

variable (B0 : Fin grid0.N → S1x256x3072.Idx → Elt F .i8) (B1 : Fin grid0.N → S1x256x1.Idx → Elt F .f32)
  (B2 : Fin grid0.N → S1x3072x768.Idx → Elt F .bf16)

/-- The first `q` rows of slot `s` are those that step `t` dequantises. -/
def SlotIs (s t q : ℕ) (W : S2x1024x3072.Idx → Elt F .bf16) : Prop :=
  ∀ y : S2x1024x3072.Idx, (y 0).val = s → (y 1).val < q → W y = wbAt B0 B1 t (y 1) (y 2)

/-- What the slots hold before point `n = 4 t + i`: this step's slot the quarters written so far, the other slot the whole of the step before. -/
structure InvW (n : ℕ) (W : S2x1024x3072.Idx → Elt F .bf16) : Prop where
  cur : n / 4 < 84 → SlotIs B0 B1 ((n / 4) % 2) (n / 4) (256 * (n % 4)) W
  prev : 1 ≤ n / 4 → n / 4 ≤ 84 → SlotIs B0 B1 ((n / 4 + 1) % 2) (n / 4 - 1) 1024 W

/-- What the accumulators hold before point `n = 4 t + i`: the tiles below `i` after step `t`, the others after step `t - 1`. -/
structure InvA (n : ℕ) (A : S4x1024x768.Idx → Elt F .f32) : Prop where
  done : 1 ≤ n / 4 → ∀ k : Fin 4, k.val < n % 4 → tileAt k A = accV B0 B1 B2 (n / 4) k.val
  todo : 2 ≤ n / 4 → ∀ k : Fin 4, n % 4 ≤ k.val → tileAt k A = accV B0 B1 B2 (n / 4 - 1) k.val

theorem invW_zero (W : S2x1024x3072.Idx → Elt F .bf16) : InvW B0 B1 0 W :=
  ⟨fun _ y _ h => absurd h (by simp), fun h => absurd h (by decide)⟩

theorem invA_zero (A : S4x1024x768.Idx → Elt F .f32) : InvA B0 B1 B2 0 A :=
  ⟨fun h => absurd h (by decide), fun h => absurd h (by decide)⟩

variable {B0 B1 B2}

/-- A slot that holds all rows of a step reads as that step's matrix. -/
theorem slotMat_eq (i : grid0.Coords) (t : ℕ) (W : S2x1024x3072.Idx → Elt F .bf16) (h : SlotIs B0 B1 (((i 0).val + 1) % 2) t 1024 W) :
    slotMat i W = wbMat B0 B1 t := by
  funext j
  obtain ⟨a, b, rfl⟩ : ∃ a b, j = ix2 a b := ⟨_, _, eq_ix2 j⟩
  refine (shapeCast_1ab_ab_apply (VecWindow.window W (slotOff i) S1x1024x3072.size (slotOff_inb i)) _ a b).trans ?_
  unfold VecWindow.window
  refine (h _ (by show ((i 0).val + 1) % 2 + 1 * 0 = _; omega) (Fin.isLt _)).trans ?_
  refine congrArg₂ (wbAt B0 B1 t) (Fin.ext ?_) (Fin.ext ?_)
  · show 0 + 1 * a.val = a.val; omega
  · show 0 + 1 * b.val = b.val; omega

/-- The write at a point keeps the other slot. -/
theorem prev_put {t : Fin grid0.N} {W : S2x1024x3072.Idx → Elt F .bf16} (X2 : S1x256x3072.Idx → Elt F .i8) (X3 : S1x256x1.Idx → Elt F .f32) {u q : ℕ}
    (h : SlotIs B0 B1 ((t.val / 4 + 1) % 2) u q W) : SlotIs B0 B1 ((t.val / 4 + 1) % 2) u q (wPut (grid0.coords t) X2 X3 W) := by
  intro y h0 h1
  unfold wPut VecWindow.put
  rw [dif_neg]
  · exact h y h0 h1
  · intro hh
    have h3 := hh 0
    have e1 : ((grid0.coords t) 0).val % 2 ≤ (y 0).val := h3.1
    have e2 : (y 0).val < ((grid0.coords t) 0).val % 2 + 1 := h3.2
    have := (coords_val t).1
    omega

/-- The write at a point adds its quarter to the current slot. -/
theorem cur_put {t : Fin grid0.N} {W : S2x1024x3072.Idx → Elt F .bf16}
    (h : SlotIs B0 B1 ((t.val / 4) % 2) (t.val / 4) (256 * (t.val % 4)) W) :
    SlotIs B0 B1 ((t.val / 4) % 2) (t.val / 4) (256 * (t.val % 4) + 256) (wPut (grid0.coords t) (B0 t) (B1 t) W) := by
  intro y h0 h1
  have c0 := (coords_val t).1
  have c1 := (coords_val t).2
  have y2 : (y 2).val < 3072 := (y 2).isLt
  unfold wPut VecWindow.put
  by_cases hlt : (y 1).val < 256 * (t.val % 4)
  · rw [dif_neg]
    · exact h y h0 hlt
    · intro hh
      have h3 := (hh 1).1
      have e1 : 256 * ((grid0.coords t) 1).val ≤ (y 1).val := h3
      omega
  · have hh : ∀ a, putOff (grid0.coords t) a ≤ (y a).val ∧ (y a).val < putOff (grid0.coords t) a + S1x256x3072.size a := by
      intro a
      match a with
      | ⟨0, _⟩ => show ((grid0.coords t) 0).val % 2 ≤ (y 0).val ∧ (y 0).val < ((grid0.coords t) 0).val % 2 + 1; omega
      | ⟨1, _⟩ => show 256 * ((grid0.coords t) 1).val ≤ (y 1).val ∧ (y 1).val < 256 * ((grid0.coords t) 1).val + 256; omega
      | ⟨2, _⟩ => show 0 ≤ (y 2).val ∧ (y 2).val < 0 + 3072; omega
    rw [dif_pos hh]
    have hd : (y 1).val / 256 = t.val % 4 := by omega
    have hn : 4 * (t.val / 4) + (y 1).val / 256 = t.val := by omega
    show _ = chunk B0 B1 (4 * (t.val / 4) + (y 1).val / 256) _
    rw [hn]
    unfold chunk
    rw [pt_val]
    refine congrArg (k0_pay14 (F := F) (B1 t) (B0 t)) (funext fun a => Fin.ext ?_)
    match a with
    | ⟨0, _⟩ => show (y 0).val - ((grid0.coords t) 0).val % 2 = 0; omega
    | ⟨1, _⟩ => show (y 1).val - 256 * ((grid0.coords t) 1).val = (y 1).val % 256; omega
    | ⟨2, _⟩ => show (y 2).val - 0 = (y 2).val; omega

/-- The slots after a point that dequantises. -/
theorem invW_put {t : Fin grid0.N} {W : S2x1024x3072.Idx → Elt F .bf16} (ht : t.val / 4 < 84) (h : InvW B0 B1 t.val W) :
    InvW B0 B1 (t.val + 1) (wPut (grid0.coords t) (B0 t) (B1 t) W) := by
  have hc := cur_put (h.cur ht)
  by_cases h3 : t.val % 4 = 3
  · have e1 : (t.val + 1) / 4 = t.val / 4 + 1 := by omega
    have e2 : (t.val + 1) % 4 = 0 := by omega
    refine ⟨fun _ => ?_, fun _ _ => ?_⟩
    · rw [e2]; intro y _ hy; exact absurd hy (by simp)
    · rw [e1]
      have e3 : (t.val / 4 + 1 + 1) % 2 = (t.val / 4) % 2 := by omega
      rw [e3, Nat.add_sub_cancel]
      rw [h3] at hc
      exact hc
  · have e1 : (t.val + 1) / 4 = t.val / 4 := by omega
    have e2 : (t.val + 1) % 4 = t.val % 4 + 1 := by omega
    refine ⟨fun _ => ?_, fun h1 h2 => ?_⟩
    · rw [e1, e2]; exact hc
    · rw [e1] at h1 h2 ⊢
      exact prev_put _ _ (h.prev h1 h2)

/-- The slots after a point of the last step, which writes none. -/
theorem invW_last {t : Fin grid0.N} {W : S2x1024x3072.Idx → Elt F .bf16} (ht : t.val / 4 = 84) (h : InvW B0 B1 t.val W) : InvW B0 B1 (t.val + 1) W := by
  refine ⟨fun h1 => by omega, fun h1 h2 => ?_⟩
  have e1 : (t.val + 1) / 4 = t.val / 4 := by omega
  rw [e1] at h1 h2 ⊢
  exact h.prev h1 h2

/-- Tile `i`'s accumulator after its point of step `t`: the step's value. -/
theorem accStep_eq {t : Fin grid0.N} {M : S1024x3072.Idx → Elt F .bf16} {A : S4x1024x768.Idx → Elt F .f32} (h1 : 1 ≤ t.val / 4)
    (hM : M = wbMat B0 B1 (t.val / 4 - 1)) (hA : InvA B0 B1 B2 t.val A) :
    accStep (grid0.coords t) (B2 t) M (tileOf (grid0.coords t) A) = accV B0 B1 B2 (t.val / 4) (t.val % 4) := by
  obtain ⟨u, hu⟩ : ∃ u, t.val / 4 = u + 1 := ⟨t.val / 4 - 1, by omega⟩
  have hn : 4 * (u + 1) + t.val % 4 = t.val := by omega
  subst hM
  rw [hu]
  unfold accV
  rw [hn, pt_val, Nat.add_sub_cancel]
  have c0 := (coords_val t).1
  have c1 := (coords_val t).2
  by_cases h2 : 2 ≤ t.val / 4
  · rw [tileOf_eq]
    have e := hA.todo h2 ((grid0.coords t) 1) (by rw [c1])
    rw [e, c1, hu, Nat.add_sub_cancel]
  · have hu0 : u = 0 := by omega
    have hf := first_model (grid0.coords t) (by omega) (by rw [c0, hu, hu0])
    unfold accStep k0_pay2
    rw [hf]
    rfl

/-- The accumulators after a point that accumulates. -/
theorem invA_put {t : Fin grid0.N} {A : S4x1024x768.Idx → Elt F .f32} (h1 : 1 ≤ t.val / 4) (hA : InvA B0 B1 B2 t.val A) :
    InvA B0 B1 B2 (t.val + 1) (aPut (grid0.coords t) (accV B0 B1 B2 (t.val / 4) (t.val % 4)) A) := by
  have c1 := (coords_val t).2
  have hsame : ∀ k : Fin 4, k.val = t.val % 4 → tileAt k (aPut (grid0.coords t) (accV B0 B1 B2 (t.val / 4) (t.val % 4)) A) = accV B0 B1 B2 (t.val / 4) k.val := by
    intro k hk
    have : k = (grid0.coords t) 1 := Fin.ext (by rw [c1, hk])
    rw [hk, this]
    exact tileAt_aPut_same _ _ _
  have hne : ∀ k : Fin 4, k.val ≠ t.val % 4 → tileAt k (aPut (grid0.coords t) (accV B0 B1 B2 (t.val / 4) (t.val % 4)) A) = tileAt k A := by
    intro k hk
    refine tileAt_aPut_ne _ _ (fun e => hk ?_) _ _
    rw [e, c1]
  by_cases h3 : t.val % 4 = 3
  · have e1 : (t.val + 1) / 4 = t.val / 4 + 1 := by omega
    have e2 : (t.val + 1) % 4 = 0 := by omega
    refine ⟨fun _ k hk => by omega, fun _ k _ => ?_⟩
    rw [e1, Nat.add_sub_cancel]
    by_cases hk : k.val = t.val % 4
    · exact hsame k hk
    · rw [hne k hk]; exact hA.done h1 k (by omega)
  · have e1 : (t.val + 1) / 4 = t.val / 4 := by omega
    have e2 : (t.val + 1) % 4 = t.val % 4 + 1 := by omega
    refine ⟨fun _ k hk => ?_, fun h2 k hk => ?_⟩
    · rw [e1]
      by_cases hk' : k.val = t.val % 4
      · exact hsame k hk'
      · rw [hne k hk']; exact hA.done h1 k (by omega)
    · rw [e1] at h2 ⊢
      rw [hne k (by omega)]; exact hA.todo h2 k (by omega)

/-- The accumulators after a point of the first step, which touches none. -/
theorem invA_first {t : Fin grid0.N} {A A' : S4x1024x768.Idx → Elt F .f32} (h0 : t.val / 4 = 0) : InvA B0 B1 B2 (t.val + 1) A' := by
  by_cases h3 : t.val % 4 = 3
  · exact ⟨fun _ k hk => by omega, fun h => by omega⟩
  · exact ⟨fun h => by omega, fun h => by omega⟩

end Inv

end Cert.KernelIdeal.Hand

end
-- ==== Proof.KI.Rhs.lean ====
/-
  The first region (`cc0_rhs`): its proof data and its body obligation. At every point the body is one of the four cases of
  Body.lean; the invariant is the two scratch buffers at the values of Spec.lean.
-/
module

public import proofs.«01_k».proof.Proof.KI.Spec
public import Idealize.ShloMosaic.Lib.Pipeline.FrameBody
public import Idealize.ShloMosaic.Lib.Pipeline.Frame
public import Idealize.ShloMosaic.Lib.Claim
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents as a region finds them.
variable (V : (c : Dev nD) → (b : Ref sig .tc) → Buf (Elt F) ((c : Thread nD τ).loc b))

/-- The other scoped buffers: the second region's staging buffers. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks of codes, scales and Gram columns. -/
abbrev codesB (c : Dev nD) : Fin grid0.N → S1x256x3072.Idx → Elt F .i8 := fun t => iblk0 V c 0 t
abbrev scalesB (c : Dev nD) : Fin grid0.N → S1x256x1.Idx → Elt F .f32 := fun t => iblk0 V c 1 t
abbrev gramsB (c : Dev nD) : Fin grid0.N → S1x3072x768.Idx → Elt F .bf16 := fun t => iblk0 V c 2 t

/-- The accumulator after point `t`. -/
abbrev accAt (c : Dev nD) (t : Fin cfg0.N) : S1x1024x768.Idx → Elt F .f32 :=
  accV (codesB V c) (scalesB V c) (gramsB V c) (t.val / 4) (t.val % 4)

/-- The invariant before point `n`. -/
def Phi0 (c : Dev nD) (n : ℕ) : sProp 𝕄 :=
  iprop(∃ (W : S2x1024x3072.Idx → Elt F .bf16) (A : S4x1024x768.Idx → Elt F .f32),
    ⌜InvW (codesB V c) (scalesB V c) n W ∧ InvA (codesB V c) (scalesB V c) (gramsB V c) n A⌝ ∗ wbPt c W ∗ accPt c A ∗ otherScoped c)

/-- The proof data: after a point each input's buffer holds its block, each output's a plane of the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay4 (F := F) (accAt V c t)
    | ⟨4, _⟩ => k0_pay6 (F := F) (accAt V c t)
    | ⟨5, _⟩ => k0_pay7 (F := F) (accAt V c t)
  Φ n := Phi0 V c n.val
  q _ := fullShare
  owed _ := 0

theorem dat0_A (c : Dev nD) (w : Fin cfg0.W) : (dat0 V c).A w = V c (Pipeline.arrRef spec0 w) := by dsimp only [dat0]

theorem dat0_after0 (c : Dev nD) (t : Fin cfg0.N) : (dat0 V c).after 0 t = iblk0 V c 0 t := by dsimp only [dat0]
theorem dat0_after1 (c : Dev nD) (t : Fin cfg0.N) : (dat0 V c).after 1 t = iblk0 V c 1 t := by dsimp only [dat0]
theorem dat0_after2 (c : Dev nD) (t : Fin cfg0.N) : (dat0 V c).after 2 t = iblk0 V c 2 t := by dsimp only [dat0]
theorem dat0_after3 (c : Dev nD) (t : Fin cfg0.N) : (dat0 V c).after 3 t = k0_pay4 (F := F) (accAt V c t) := by dsimp only [dat0]
theorem dat0_after4 (c : Dev nD) (t : Fin cfg0.N) : (dat0 V c).after 4 t = k0_pay6 (F := F) (accAt V c t) := by dsimp only [dat0]
theorem dat0_after5 (c : Dev nD) (t : Fin cfg0.N) : (dat0 V c).after 5 t = k0_pay7 (F := F) (accAt V c t) := by dsimp only [dat0]

theorem dat0_before0 (c : Dev nD) (t : Fin cfg0.N) (d) : (dat0 V c).before 0 t d = iblk0 V c 0 t :=
  ((dat0 V c).before_in_eq_fetched 0 rfl (fun _ => rfl) (fun _ _ _ => rfl) (fun t => by rw [dat0_after0]; unfold Dat.blockOf iblk0; rw [dat0_A]; try rfl) t d).trans
    (by unfold Dat.fetched Dat.blockOf iblk0; rw [dat0_A]; try rfl)
theorem dat0_before1 (c : Dev nD) (t : Fin cfg0.N) (d) : (dat0 V c).before 1 t d = iblk0 V c 1 t :=
  ((dat0 V c).before_in_eq_fetched 1 rfl (fun _ => rfl) (fun _ _ _ => rfl) (fun t => by rw [dat0_after1]; unfold Dat.blockOf iblk0; rw [dat0_A]; try rfl) t d).trans
    (by unfold Dat.fetched Dat.blockOf iblk0; rw [dat0_A]; try rfl)
theorem dat0_before2 (c : Dev nD) (t : Fin cfg0.N) (d) : (dat0 V c).before 2 t d = iblk0 V c 2 t :=
  ((dat0 V c).before_in_eq_fetched 2 rfl (fun _ => rfl) (fun _ _ _ => rfl) (fun t => by rw [dat0_after2]; unfold Dat.blockOf iblk0; rw [dat0_A]; try rfl) t d).trans
    (by unfold Dat.fetched Dat.blockOf iblk0; rw [dat0_A]; try rfl)

/-! ## When the outputs are written -/

/-- A point that stores the outputs: the last model's step of a row block. -/
abbrev Live (t : Fin cfg0.N) : Prop := 0 < t.val / 4 ∧ t.val / 4 % 7 = 0

theorem idle_iff : ∀ t : Fin grid0.N, idle0 3 (grid0.coords t) = decide (¬ (0 < t.val / 4 ∧ t.val / 4 % 7 = 0)) := by decide +kernel
theorem flush0_3 : ∀ t : Fin cfg0.N, (cfg0.win 3).flush t = decide (0 < t.val / 4 ∧ t.val / 4 % 7 = 0) :=
  (by decide +kernel : ∀ t : Fin grid0.N, win0_3.flush t = decide (0 < t.val / 4 ∧ t.val / 4 % 7 = 0))
theorem flush0_4 : ∀ t : Fin cfg0.N, (cfg0.win 4).flush t = decide (0 < t.val / 4 ∧ t.val / 4 % 7 = 0) :=
  (by decide +kernel : ∀ t : Fin grid0.N, win0_4.flush t = decide (0 < t.val / 4 ∧ t.val / 4 % 7 = 0))
theorem flush0_5 : ∀ t : Fin cfg0.N, (cfg0.win 5).flush t = decide (0 < t.val / 4 ∧ t.val / 4 % 7 = 0) :=
  (by decide +kernel : ∀ t : Fin grid0.N, win0_5.flush t = decide (0 < t.val / 4 ∧ t.val / 4 % 7 = 0))

theorem leaves3_idle (c : Dev nD) (t : Fin cfg0.N) (h : ¬ Live t) :
    (dat0 V c).leavesExact 3 t = iprop(∃ d, owns c (st0_3 t) fullShare ((dat0 V c).before 3 t d)) :=
  (dat0 V c).leavesExact_idle 3 t ((idle_iff t).trans (decide_eq_true h)) ((flush0_3 t).trans (decide_eq_false h))
theorem leaves3_live (c : Dev nD) (t : Fin cfg0.N) (h : Live t) :
    (dat0 V c).leavesExact 3 t = owns c (st0_3 t) fullShare ((dat0 V c).after 3 t) := by
  have hi : cfg0.idle 3 (cfg0.grid.coords t) = false := (idle_iff t).trans (decide_eq_false (not_not.mpr h))
  unfold Dat.leavesExact; rw [hi]
theorem leaves4_idle (c : Dev nD) (t : Fin cfg0.N) (h : ¬ Live t) :
    (dat0 V c).leavesExact 4 t = iprop(∃ d, owns c (st0_4 t) fullShare ((dat0 V c).before 4 t d)) :=
  (dat0 V c).leavesExact_idle 4 t ((idle_iff t).trans (decide_eq_true h)) ((flush0_4 t).trans (decide_eq_false h))
theorem leaves4_live (c : Dev nD) (t : Fin cfg0.N) (h : Live t) :
    (dat0 V c).leavesExact 4 t = owns c (st0_4 t) fullShare ((dat0 V c).after 4 t) := by
  have hi : cfg0.idle 4 (cfg0.grid.coords t) = false := (idle_iff t).trans (decide_eq_false (not_not.mpr h))
  unfold Dat.leavesExact; rw [hi]
theorem leaves5_idle (c : Dev nD) (t : Fin cfg0.N) (h : ¬ Live t) :
    (dat0 V c).leavesExact 5 t = iprop(∃ d, owns c (st0_5 t) fullShare ((dat0 V c).before 5 t d)) :=
  (dat0 V c).leavesExact_idle 5 t ((idle_iff t).trans (decide_eq_true h)) ((flush0_5 t).trans (decide_eq_false h))
theorem leaves5_live (c : Dev nD) (t : Fin cfg0.N) (h : Live t) :
    (dat0 V c).leavesExact 5 t = owns c (st0_5 t) fullShare ((dat0 V c).after 5 t) := by
  have hi : cfg0.idle 5 (cfg0.grid.coords t) = false := (idle_iff t).trans (decide_eq_false (not_not.mpr h))
  unfold Dat.leavesExact; rw [hi]

/-! ## The body obligation -/

/-- What the body is called with at point `t`, -/
def bodyPre0 (c : Dev nD) (t : Fin cfg0.N) : sProp 𝕄 :=
  iprop(Phi0 V c t.val ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop(Phi0 V c (t.val + 1) ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ (dat0 V c).leavesExact 3 t
    ∗ (dat0 V c).leavesExact 4 t
    ∗ (dat0 V c).leavesExact 5 t)

/-- The first step at any point. -/
theorem sound_first (c : Dev nD) (t : Fin cfg0.N) (h0 : t.val / 4 = 0) (hn : ¬ Live t) :
    bodyPre0 V c t ⊢ wp frame (wpE (defs₀ (F := F)) Variants.none c none) Set.univ (bodyAt0 t) (fun _ => bodyPost0 V c t) := by
  have c0 := (coords_val t).1
  unfold bodyPre0 bodyPost0 bodyAt0 Phi0
  simp only [dat0_before0, dat0_before1, dat0_before2]
  rw [leaves3_idle V c t hn, leaves4_idle V c t hn, leaves5_idle V c t hn]
  iintro ⟨⟨%W, %A, %hI, HW, HA, Hr⟩, Ho, ⟨%d0, H0⟩, ⟨%d1, H1⟩, ⟨%d2, H2⟩, H3, H4, H5⟩
  iapply (run_first c (grid0.coords t) _ _ _ _ _ _ _ _ _ _ _ _ ((cond1_iff _).mpr (by omega)) (fun h => by have := (cond2_iff _).mp h; omega) (fun h => by have := (cond4_iff _).mp h; omega)
    (iblk0 V c 0 t) (iblk0 V c 1 t) W _)
  isplitl [H0]; · iexact H0
  isplitl [H1]; · iexact H1
  isplitl [HW]; · iexact HW
  iintro ⟨H0, H1, HW⟩
  isplitl [HW HA Hr]
  · iexists _, _
    isplitr
    · ipureintro
      exact ⟨invW_put (B0 := codesB V c) (B1 := scalesB V c) (by omega) hI.1, invA_first (A := A) (A' := A) h0⟩
    isplitl [HW]; · iexact HW
    isplitl [HA]; · iexact HA
    iexact Hr
  isplitl [Ho]; · iexact Ho
  isplitl [H0]; · iexact H0
  isplitl [H1]; · iexact H1
  isplitl [H2]; · iexact H2
  isplitl [H3]; · iexact H3
  isplitl [H4]; · iexact H4
  iexact H5

/-- A middle step that does not store the outputs. -/
theorem sound_mid (c : Dev nD) (t : Fin cfg0.N) (h1 : 1 ≤ t.val / 4) (h2 : t.val / 4 < 84) (hn : ¬ Live t) :
    bodyPre0 V c t ⊢ wp frame (wpE (defs₀ (F := F)) Variants.none c none) Set.univ (bodyAt0 t) (fun _ => bodyPost0 V c t) := by
  have c0 := (coords_val t).1
  unfold bodyPre0 bodyPost0 bodyAt0 Phi0
  simp only [dat0_before0, dat0_before1, dat0_before2]
  rw [leaves3_idle V c t hn, leaves4_idle V c t hn, leaves5_idle V c t hn]
  iintro ⟨⟨%W, %A, %hI, HW, HA, Hr⟩, Ho, ⟨%d0, H0⟩, ⟨%d1, H1⟩, ⟨%d2, H2⟩, H3, H4, H5⟩
  have hM := slotMat_eq (B0 := codesB V c) (B1 := scalesB V c) (grid0.coords t) (t.val / 4 - 1) (wPut (grid0.coords t) (codesB V c t) (scalesB V c t) W)
    (by rw [c0]; exact prev_put _ _ (hI.1.prev h1 (by omega)))
  have hT := accStep_eq h1 hM hI.2
  iapply (run_mid c (grid0.coords t) _ _ _ _ _ _ _ _ _ _ _ _ (by omega) (fun h => by have := (cond1_iff _).mp h; omega) ((cond2_iff _).mpr (by omega)) (fun h => hn ⟨h1, by have := (cond3_iff _ (by omega)).mp h; omega⟩) (fun h => by have := (cond4_iff _).mp h; omega)
    (iblk0 V c 0 t) (iblk0 V c 1 t) (iblk0 V c 2 t) W A _)
  isplitl [H0]; · iexact H0
  isplitl [H1]; · iexact H1
  isplitl [H2]; · iexact H2
  isplitl [HW]; · iexact HW
  isplitl [HA]; · iexact HA
  rw [hT]
  iintro ⟨H0, H1, H2, HW, HA⟩
  isplitl [HW HA Hr]
  · iexists _, _
    isplitr
    · ipureintro
      exact ⟨invW_put (B0 := codesB V c) (B1 := scalesB V c) h2 hI.1, invA_put h1 hI.2⟩
    isplitl [HW]; · iexact HW
    isplitl [HA]; · iexact HA
    iexact Hr
  isplitl [Ho]; · iexact Ho
  isplitl [H0]; · iexact H0
  isplitl [H1]; · iexact H1
  isplitl [H2]; · iexact H2
  isplitl [H3]; · iexact H3
  isplitl [H4]; · iexact H4
  iexact H5

/-- A middle step that stores the outputs. -/
theorem sound_midflush (c : Dev nD) (t : Fin cfg0.N) (h2 : t.val / 4 < 84) (hl : Live t) :
    bodyPre0 V c t ⊢ wp frame (wpE (defs₀ (F := F)) Variants.none c none) Set.univ (bodyAt0 t) (fun _ => bodyPost0 V c t) := by
  have c0 := (coords_val t).1
  unfold bodyPre0 bodyPost0 bodyAt0 Phi0
  simp only [dat0_before0, dat0_before1, dat0_before2]
  rw [leaves3_live V c t hl, leaves4_live V c t hl, leaves5_live V c t hl]
  rw [dat0_after3, dat0_after4, dat0_after5]
  iintro ⟨⟨%W, %A, %hI, HW, HA, Hr⟩, Ho, ⟨%d0, H0⟩, ⟨%d1, H1⟩, ⟨%d2, H2⟩, H3, H4, H5⟩
  icases H3 with ⟨%d3, H3⟩
  icases H4 with ⟨%d4, H4⟩
  icases H5 with ⟨%d5, H5⟩
  have h1 : 1 ≤ t.val / 4 := hl.1
  have hM := slotMat_eq (B0 := codesB V c) (B1 := scalesB V c) (grid0.coords t) (t.val / 4 - 1) (wPut (grid0.coords t) (codesB V c t) (scalesB V c t) W)
    (by rw [c0]; exact prev_put _ _ (hI.1.prev h1 (by omega)))
  have hT := accStep_eq h1 hM hI.2
  iapply (run_midflush c (grid0.coords t) _ _ _ _ _ _ _ _ _ _ _ _ (by omega) (fun h => by have := (cond1_iff _).mp h; omega) ((cond2_iff _).mpr (by omega)) ((cond3_iff _ (by omega)).mpr (by rw [c0]; exact hl.2)) (fun h => by have := (cond4_iff _).mp h; omega)
    (iblk0 V c 0 t) (iblk0 V c 1 t) (iblk0 V c 2 t) _ _ _ W A _)
  isplitl [H0]; · iexact H0
  isplitl [H1]; · iexact H1
  isplitl [H2]; · iexact H2
  isplitl [H3]; · iexact H3
  isplitl [H4]; · iexact H4
  isplitl [H5]; · iexact H5
  isplitl [HW]; · iexact HW
  isplitl [HA]; · iexact HA
  rw [hT]
  iintro ⟨H0, H1, H2, H3, H4, H5, HW, HA⟩
  isplitl [HW HA Hr]
  · iexists _, _
    isplitr
    · ipureintro
      exact ⟨invW_put (B0 := codesB V c) (B1 := scalesB V c) h2 hI.1, invA_put h1 hI.2⟩
    isplitl [HW]; · iexact HW
    isplitl [HA]; · iexact HA
    iexact Hr
  isplitl [Ho]; · iexact Ho
  isplitl [H0]; · iexact H0
  isplitl [H1]; · iexact H1
  isplitl [H2]; · iexact H2
  isplitl [H3]; · iexact H3
  isplitl [H4]; · iexact H4
  iexact H5

/-- The last step. -/
theorem sound_last (c : Dev nD) (t : Fin cfg0.N) (h2 : t.val / 4 = 84) (hl : Live t) :
    bodyPre0 V c t ⊢ wp frame (wpE (defs₀ (F := F)) Variants.none c none) Set.univ (bodyAt0 t) (fun _ => bodyPost0 V c t) := by
  have c0 := (coords_val t).1
  unfold bodyPre0 bodyPost0 bodyAt0 Phi0
  simp only [dat0_before0, dat0_before1, dat0_before2]
  rw [leaves3_live V c t hl, leaves4_live V c t hl, leaves5_live V c t hl]
  rw [dat0_after3, dat0_after4, dat0_after5]
  iintro ⟨⟨%W, %A, %hI, HW, HA, Hr⟩, Ho, ⟨%d0, H0⟩, ⟨%d1, H1⟩, ⟨%d2, H2⟩, H3, H4, H5⟩
  icases H3 with ⟨%d3, H3⟩
  icases H4 with ⟨%d4, H4⟩
  icases H5 with ⟨%d5, H5⟩
  have h1 : 1 ≤ t.val / 4 := hl.1
  have hM := slotMat_eq (B0 := codesB V c) (B1 := scalesB V c) (grid0.coords t) (t.val / 4 - 1) W
    (by rw [c0]; exact hI.1.prev h1 (by omega))
  have hT := accStep_eq h1 hM hI.2
  iapply (run_last c (grid0.coords t) _ _ _ _ _ _ _ _ _ _ _ _ (by omega) (fun h => by have := (cond1_iff _).mp h; omega) (fun h => by have := (cond2_iff _).mp h; omega) ((cond4_iff _).mpr (by omega)) (cond5_iff _ (by omega))
    (iblk0 V c 2 t) _ _ _ W A _)
  isplitl [H2]; · iexact H2
  isplitl [H3]; · iexact H3
  isplitl [H4]; · iexact H4
  isplitl [H5]; · iexact H5
  isplitl [HW]; · iexact HW
  isplitl [HA]; · iexact HA
  rw [hT]
  iintro ⟨H2, H3, H4, H5, HW, HA⟩
  isplitl [HW HA Hr]
  · iexists _, _
    isplitr
    · ipureintro
      exact ⟨invW_last h2 hI.1, invA_put h1 hI.2⟩
    isplitl [HW]; · iexact HW
    isplitl [HA]; · iexact HA
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 340 := Nat.lt_of_lt_of_eq t.isLt N_0
  by_cases h0 : t.val / 4 = 0
  · exact sound_first V c t h0 (fun h => by have := h.1; omega)
  by_cases hl : Live t
  · by_cases h2 : t.val / 4 = 84
    · exact sound_last V c t h2 hl
    · exact sound_midflush V c t (by omega) hl
  · refine sound_mid V c t (by omega) (Nat.lt_of_le_of_ne (by omega) fun h => hl ⟨by omega, by rw [h]⟩) hl

/-- The body table's row at point `t`'s slots is the body as `bodyAt0` spells it. -/
theorem defs₀_row0 (t : Fin cfg0.N) : defs₀ (F := F) .tc cfg0.body (cfg0.bodyArgs t (cfg0.slots t)) = bodyAt0 t := by
  unfold defs₀; rw [Defs.onTc_tc]

/-- The body obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## Entry and exit -/

/-- The scoped buffers make the invariant before the first point, -/
theorem Phi0_in (c : Dev nD) : iprop(Pipeline.scopedRest spec0 c ∗ emp) ⊢ (Phi0 (F := F) V c 0 : sProp 𝕄) := by
  rw [scopedRest0_eq]
  unfold Phi0
  iintro ⟨⟨⟨%W, HW⟩, ⟨%A, HA⟩, Hr⟩, -⟩
  iexists W, A
  isplitr
  · ipureintro; exact ⟨invW_zero _ _ _, invA_zero _ _ _ _⟩
  isplitl [HW]; · iexact HW
  isplitl [HA]; · iexact HA
  unfold otherScoped
  iexact Hr

/-- and the invariant gives them back at any point. -/
theorem Phi0_out (c : Dev nD) (n : ℕ) : (Phi0 (F := F) V c n : sProp 𝕄) ⊢ iprop(Pipeline.scopedRest spec0 c ∗ emp) := by
  rw [scopedRest0_eq]
  unfold Phi0
  iintro ⟨%W, %A, -, HW, HA, Hr⟩
  isplitl
  · isplitl [HW]; · iexists W; iexact HW
    isplitl [HA]; · iexists A; iexact HA
    unfold otherScoped
    iexact Hr
  iempintro

end Cert.KernelIdeal.Hand

end
-- ==== Proof.KI.Solve.lean ====
/-
  The second region (`cc1_solve`): every point loads six whole blocks and stores one. Its proof data and body obligation.
-/
module

public import proofs.«01_k».proof.Proof.KI.Body
public import proofs.«01_k».proof.Proof.Gen.KernelIdeal.Launch
public import Idealize.ShloMosaic.Lib.Pipeline.FrameBody
public import Idealize.ShloMosaic.Lib.Pipeline.Frame
public import Idealize.ShloMosaic.Lib.Claim
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents as a region finds them.
variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rRow : Rect S1024x3072 := Rect.unit (s := S1024x3072) ![0, 0] S1024x3072.size inb_S1024x3072_S1024x3072_0_0
abbrev rCol : Rect S3072x256 := Rect.unit (s := S3072x256) ![0, 0] S3072x256.size inb_S3072x256_S3072x256_0_0
abbrev rOut : Rect S1024x256 := Rect.unit (s := S1024x256) ![0, 0] S1024x256.size inb_S1024x256_S1024x256_0_0

/-- What the body stores, from its six blocks. -/
def solvePay (x0 x1 x2 : Vec F S1024x3072 .bf16) (x3 x4 x5 : Vec F S3072x256 .bf16) : Vec F S1024x256 .bf16 :=
  k1_pay1 (k1_pay2 (View.ld x2 rRow) (View.ld x3 rCol) (View.ld x1 rRow) (View.ld x4 rCol) (View.ld x0 rRow) (View.ld x5 rCol) (View.ld x1 rRow) (View.ld x3 rCol) (View.ld x0 rRow) (View.ld x4 rCol))
    (k1_pay3 (View.ld x0 rRow) (View.ld x3 rCol))

/-- The output's buffer after the body. -/
def out1_6 (x0 x1 x2 : Vec F S1024x3072 .bf16) (x3 x4 x5 : Vec F S3072x256 .bf16) : Vec F S1024x256 .bf16 :=
  View.canon [⟨rOut, solvePay x0 x1 x2 x3 x4 x5⟩]

/-- The one store covers the buffer. -/
theorem cover1_6 (p0 : Vec F S1024x256 .bf16) (y : S1024x256.Idx) :
    ∃ pc ∈ ([⟨rOut, p0⟩] : List (View.Piece (Elt F) S1024x256 .bf16)), y ∈ pc.1.set :=
  View.cover_of_tiled [⟨rOut, p0⟩] S1024x256.size (by rfl) y

set_option maxHeartbeats 1000000 in
/-- The body on whole buffers: the inputs as they were, the output at `out1_6` of them. -/
theorem sound_kernel1 (c : Dev nD) (E : Set ℕ) (i : grid1.Coords)
    (arg2 : Memref sig .tc .vmem S1024x3072 .bf16) (harg2 : arg2.IsWhole) (arg3 : Memref sig .tc .vmem S1024x3072 .bf16) (harg3 : arg3.IsWhole) (arg4 : Memref sig .tc .vmem S1024x3072 .bf16) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x256 .bf16) (harg7 : arg7.IsWhole) (arg8 : Memref sig .tc .vmem S1024x256 .bf16) (harg8 : arg8.IsWhole)
    (x0 x1 x2 : Vec F S1024x3072 .bf16) (x3 x4 x5 : Vec F S3072x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1_solve i arg2 harg2 arg3 harg3 arg4 harg4 arg5 harg5 arg6 harg6 arg7 harg7 arg8 harg8) K := by
  simp only [cc1_solve_eq_skeleton]; unfold cc1_solve_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data: after a point each input's buffer holds its block, the output's the body's value of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.scopedRest spec1 c
  q _ := fullShare
  owed _ := 0

theorem dat1_A (c : Dev nD) (w : Fin cfg1.W) : (dat1 V c).A w = V c (Pipeline.arrRef spec1 w) := by dsimp only [dat1]

theorem dat1_after0 (c : Dev nD) (t : Fin cfg1.N) : (dat1 V c).after 0 t = iblk1 V c 0 t := by dsimp only [dat1]
theorem dat1_after1 (c : Dev nD) (t : Fin cfg1.N) : (dat1 V c).after 1 t = iblk1 V c 1 t := by dsimp only [dat1]
theorem dat1_after2 (c : Dev nD) (t : Fin cfg1.N) : (dat1 V c).after 2 t = iblk1 V c 2 t := by dsimp only [dat1]
theorem dat1_after3 (c : Dev nD) (t : Fin cfg1.N) : (dat1 V c).after 3 t = iblk1 V c 3 t := by dsimp only [dat1]
theorem dat1_after4 (c : Dev nD) (t : Fin cfg1.N) : (dat1 V c).after 4 t = iblk1 V c 4 t := by dsimp only [dat1]
theorem dat1_after5 (c : Dev nD) (t : Fin cfg1.N) : (dat1 V c).after 5 t = iblk1 V c 5 t := by dsimp only [dat1]
theorem dat1_after6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem dat1_before0 (c : Dev nD) (t : Fin cfg1.N) (d) : (dat1 V c).before 0 t d = iblk1 V c 0 t :=
  ((dat1 V c).before_in_eq_fetched 0 rfl (fun _ => rfl) (fun _ _ _ => rfl) (fun t => by rw [dat1_after0]; unfold Dat.blockOf iblk1; rw [dat1_A]; try rfl) t d).trans
    (by unfold Dat.fetched Dat.blockOf iblk1; rw [dat1_A]; try rfl)
theorem dat1_before1 (c : Dev nD) (t : Fin cfg1.N) (d) : (dat1 V c).before 1 t d = iblk1 V c 1 t :=
  ((dat1 V c).before_in_eq_fetched 1 rfl (fun _ => rfl) (fun _ _ _ => rfl) (fun t => by rw [dat1_after1]; unfold Dat.blockOf iblk1; rw [dat1_A]; try rfl) t d).trans
    (by unfold Dat.fetched Dat.blockOf iblk1; rw [dat1_A]; try rfl)
theorem dat1_before2 (c : Dev nD) (t : Fin cfg1.N) (d) : (dat1 V c).before 2 t d = iblk1 V c 2 t :=
  ((dat1 V c).before_in_eq_fetched 2 rfl (fun _ => rfl) (fun _ _ _ => rfl) (fun t => by rw [dat1_after2]; unfold Dat.blockOf iblk1; rw [dat1_A]; try rfl) t d).trans
    (by unfold Dat.fetched Dat.blockOf iblk1; rw [dat1_A]; try rfl)
theorem dat1_before3 (c : Dev nD) (t : Fin cfg1.N) (d) : (dat1 V c).before 3 t d = iblk1 V c 3 t :=
  ((dat1 V c).before_in_eq_fetched 3 rfl (fun _ => rfl) (fun _ _ _ => rfl) (fun t => by rw [dat1_after3]; unfold Dat.blockOf iblk1; rw [dat1_A]; try rfl) t d).trans
    (by unfold Dat.fetched Dat.blockOf iblk1; rw [dat1_A]; try rfl)
theorem dat1_before4 (c : Dev nD) (t : Fin cfg1.N) (d) : (dat1 V c).before 4 t d = iblk1 V c 4 t :=
  ((dat1 V c).before_in_eq_fetched 4 rfl (fun _ => rfl) (fun _ _ _ => rfl) (fun t => by rw [dat1_after4]; unfold Dat.blockOf iblk1; rw [dat1_A]; try rfl) t d).trans
    (by unfold Dat.fetched Dat.blockOf iblk1; rw [dat1_A]; try rfl)
theorem dat1_before5 (c : Dev nD) (t : Fin cfg1.N) (d) : (dat1 V c).before 5 t d = iblk1 V c 5 t :=
  ((dat1 V c).before_in_eq_fetched 5 rfl (fun _ => rfl) (fun _ _ _ => rfl) (fun t => by rw [dat1_after5]; unfold Dat.blockOf iblk1; rw [dat1_A]; try rfl) t d).trans
    (by unfold Dat.fetched Dat.blockOf iblk1; rw [dat1_A]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) : defs₀ (F := F) .tc cfg1.body (cfg1.bodyArgs t (cfg1.slots t)) = bodyAt1 t := by
  unfold defs₀; rw [Defs.onTc_tc]

/-- The body obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KI.Run.lean ====
/-
  The run of @main: the two regions' segment records between held valuations, and the final memory — every argument as launched,
  the result at what the second region's proof data compute, every semaphore counter zero.
-/
module

public import proofs.«01_k».proof.Proof.KI.Rhs
public import proofs.«01_k».proof.Proof.KI.Solve
public import proofs.«01_k».proof.Proof.Gen.KernelIdeal.Regions
public import Idealize.ShloMosaic.Lib.Pipeline.RegionArraysS
public import Idealize.ShloMosaic.Lib.Pipeline.FrameBody
public import Idealize.ShloMosaic.Lib.Pipeline.Frame
public import Idealize.ShloMosaic.Lib.Claim
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers when the first region is entered, -/
def U1 (c : Dev nD) : Valuation τ sig (Elt F) := V1 m c

/-- as the region's proof data read them; -/
abbrev A1 (c : Dev nD) (b : Ref sig .tc) : Buf (Elt F) ((c : Thread nD τ).loc b) := U1 m c b

/-- when the second region is entered, -/
def U2 (c : Dev nD) : Valuation τ sig (Elt F) := Pipeline.afterRegion (dat0 (A1 m) c) (U1 m c)

abbrev A2 (c : Dev nD) (b : Ref sig .tc) : Buf (Elt F) ((c : Thread nD τ).loc b) := U2 m c b

/-- and at the end. -/
def U3 (c : Dev nD) : Valuation τ sig (Elt F) := Pipeline.afterRegion (dat1 (A2 m) c) (U2 m c)

/-- The two pipelines' proof data. -/
def pdats : (p : Fin 2) → (c : Dev nD) → Dat τ (Elt F) Unit ℕ (UR sig nD τ) ℕ (cfgs p) c
  | ⟨0, _⟩ => fun c => dat0 (A1 m) c
  | ⟨1, _⟩ => fun c => dat1 (A2 m) c

theorem inj0 : Function.Injective (Pipeline.arrRef spec0) := winFacts0.arr_inj
theorem inj1 : Function.Injective (Pipeline.arrRef spec1) := winFacts1.arr_inj

/-- A buffer that is no output of the first region is as before it. -/
theorem U2_of (c : Dev nD) (r : Ref sig .tc) (h : ∀ w : Fin 6, Pipeline.arrRef spec0 w = r → (spec0 w).isOut = false) : U2 m c r = U1 m c r :=
  Pipeline.afterRegion_keeps (dat0 (A1 m) c) (U1 m c) inj0 (fun w => dat0_A (A1 m) c w) r h
theorem U3_of (c : Dev nD) (r : Ref sig .tc) (h : ∀ w : Fin 7, Pipeline.arrRef spec1 w = r → (spec1 w).isOut = false) : U3 m c r = U2 m c r :=
  Pipeline.afterRegion_keeps (dat1 (A2 m) c) (U2 m c) inj1 (fun w => dat1_A (A2 m) c w) r h

/-- The first region's planes, as the second finds them. -/
theorem U2_arr (c : Dev nD) (w : Fin cfg0.W) : U2 m c (Proc.devRef .tc (Pipeline.arrRef spec0 w)) = (dat0 (A1 m) c).arrAt w cfg0.N :=
  Pipeline.afterRegion_arr (dat0 (A1 m) c) (U1 m c) inj0 w
/-- The result. -/
theorem U3_arr (c : Dev nD) (w : Fin cfg1.W) : U3 m c (Proc.devRef .tc (Pipeline.arrRef spec1 w)) = (dat1 (A2 m) c).arrAt w cfg1.N :=
  Pipeline.afterRegion_arr (dat1 (A2 m) c) (U2 m c) inj1 w

theorem U1_main_arg0 (c : Dev nD) : U1 m c main_arg0 = m ((c : Thread nD τ).loc main_arg0) := (V1_of m c main_arg0 (by decide)).trans rfl
theorem U2_main_arg0 (c : Dev nD) : U2 m c main_arg0 = m ((c : Thread nD τ).loc main_arg0) := (U2_of m c main_arg0 (by decide)).trans (U1_main_arg0 m c)
theorem U3_main_arg0 (c : Dev nD) : U3 m c main_arg0 = m ((c : Thread nD τ).loc main_arg0) := (U3_of m c main_arg0 (by decide)).trans (U2_main_arg0 m c)
theorem U1_main_arg1 (c : Dev nD) : U1 m c main_arg1 = m ((c : Thread nD τ).loc main_arg1) := (V1_of m c main_arg1 (by decide)).trans rfl
theorem U2_main_arg1 (c : Dev nD) : U2 m c main_arg1 = m ((c : Thread nD τ).loc main_arg1) := (U2_of m c main_arg1 (by decide)).trans (U1_main_arg1 m c)
theorem U3_main_arg1 (c : Dev nD) : U3 m c main_arg1 = m ((c : Thread nD τ).loc main_arg1) := (U3_of m c main_arg1 (by decide)).trans (U2_main_arg1 m c)
theorem U1_main_arg2 (c : Dev nD) : U1 m c main_arg2 = m ((c : Thread nD τ).loc main_arg2) := (V1_of m c main_arg2 (by decide)).trans rfl
theorem U2_main_arg2 (c : Dev nD) : U2 m c main_arg2 = m ((c : Thread nD τ).loc main_arg2) := (U2_of m c main_arg2 (by decide)).trans (U1_main_arg2 m c)
theorem U3_main_arg2 (c : Dev nD) : U3 m c main_arg2 = m ((c : Thread nD τ).loc main_arg2) := (U3_of m c main_arg2 (by decide)).trans (U2_main_arg2 m c)
theorem U1_main_arg3 (c : Dev nD) : U1 m c main_arg3 = m ((c : Thread nD τ).loc main_arg3) := (V1_of m c main_arg3 (by decide)).trans rfl
theorem U2_main_arg3 (c : Dev nD) : U2 m c main_arg3 = m ((c : Thread nD τ).loc main_arg3) := (U2_of m c main_arg3 (by decide)).trans (U1_main_arg3 m c)
theorem U3_main_arg3 (c : Dev nD) : U3 m c main_arg3 = m ((c : Thread nD τ).loc main_arg3) := (U3_of m c main_arg3 (by decide)).trans (U2_main_arg3 m c)
theorem U1_main_arg4 (c : Dev nD) : U1 m c main_arg4 = m ((c : Thread nD τ).loc main_arg4) := (V1_of m c main_arg4 (by decide)).trans rfl
theorem U2_main_arg4 (c : Dev nD) : U2 m c main_arg4 = m ((c : Thread nD τ).loc main_arg4) := (U2_of m c main_arg4 (by decide)).trans (U1_main_arg4 m c)
theorem U3_main_arg4 (c : Dev nD) : U3 m c main_arg4 = m ((c : Thread nD τ).loc main_arg4) := (U3_of m c main_arg4 (by decide)).trans (U2_main_arg4 m c)
theorem U1_main_arg5 (c : Dev nD) : U1 m c main_arg5 = m ((c : Thread nD τ).loc main_arg5) := (V1_of m c main_arg5 (by decide)).trans rfl
theorem U2_main_arg5 (c : Dev nD) : U2 m c main_arg5 = m ((c : Thread nD τ).loc main_arg5) := (U2_of m c main_arg5 (by decide)).trans (U1_main_arg5 m c)
theorem U3_main_arg5 (c : Dev nD) : U3 m c main_arg5 = m ((c : Thread nD τ).loc main_arg5) := (U3_of m c main_arg5 (by decide)).trans (U2_main_arg5 m c)

/-! ## The regions' records -/

/-- Every TensorCore cell has the one index, at level 0. -/
def lvlIx (g : GSem nD τ sig) : Finset Unit := if g.1.2 = .tc then {()} else ∅
def lvl (_ : GSem nD τ sig) (_ : Unit) : ℕ := 0

theorem lvlIx_off (g : GSem nD τ sig) (h : g.1.2 ≠ .tc) : lvlIx g = ∅ := if_neg h

theorem cut (p : Fin 2) : Pipeline.LevelCut (pcfgs (F := F)) adm () lvlIx lvl p (fun _ => (0 : CellTallies nD τ sig Unit)) (fun _ => 0) where
  hι c w s := by unfold lvlIx; rw [if_pos rfl]; exact Finset.mem_singleton_self _
  hιb c w s := Nat.le_refl _
  hD c g i h := absurd h (by show ¬ 0 < 0; decide)

/-- The second region's invariant is the scoped buffers it does not stage. -/
theorem Phi1_in (V : (c : Dev nD) → (b : Ref sig .tc) → Buf (Elt F) ((c : Thread nD τ).loc b)) (c : Dev nD) :
    iprop(Pipeline.scopedRest spec1 c ∗ emp) ⊢ ((dat1 V c).Φ 0 : sProp 𝕄) := by
  dsimp only [dat1]
  iintro ⟨H, -⟩
  iexact H
theorem Phi1_out (V : (c : Dev nD) → (b : Ref sig .tc) → Buf (Elt F) ((c : Thread nD τ).loc b)) (c : Dev nD) (n) :
    ((dat1 V c).Φ n : sProp 𝕄) ⊢ iprop(Pipeline.scopedRest spec1 c ∗ emp) := by
  dsimp only [dat1]
  iintro H
  isplitl
  · iexact H
  iempintro

set_option backward.isDefEq.respectTransparency.types false in
/-- The first region: from the buffers at `U1` to the buffers at `U2`. -/
def reg0 : RegionSeg (pcfgs (F := F)) adm (pdats m) () defs₀ Variants.none lvlIx lvl 0 :=
  RegionSeg.ofHeldIn (pcfgs (F := F)) adm (pdats m) () defs₀ Variants.none lvlIx lvl 0 (fun _ => 0) (Pipeline.ucRefs τ sig)
    (fun _ => iprop(emp)) (fun _ => iprop(emp)) launch0.toP rfl
    (fun c => (body_obligation0 (A1 m) c).loose) (fun c t => rfl) (fun c => rfl) (fun c => (dat0 (A1 m) c).share_full fun _ => rfl)
    (fun c => Phi0_in (A1 m) c) (fun c => Phi0_out (A1 m) c _) (fun _ => 0) (cut 0) (fun _ => iprop(emp)) (U1 m)
    (fun c w => dat0_A (A1 m) c w)

set_option backward.isDefEq.respectTransparency.types false in
/-- The second: from `U2` to `U3`. -/
def reg1 : RegionSeg (pcfgs (F := F)) adm (pdats m) () defs₀ Variants.none lvlIx lvl 1 :=
  RegionSeg.ofHeldIn (pcfgs (F := F)) adm (pdats m) () defs₀ Variants.none lvlIx lvl 1 (fun _ => 0) (Pipeline.ucRefs τ sig)
    (fun _ => iprop(emp)) (fun _ => iprop(emp)) launch1.toP rfl
    (fun c => (body_obligation1 (A2 m) c).loose) (fun c t => rfl) (fun c => rfl) (fun c => (dat1 (A2 m) c).share_full fun _ => rfl)
    (fun c => Phi1_in (A2 m) c) (fun c => Phi1_out (A2 m) c _) (fun _ => 0) (cut 1) (fun _ => iprop(emp)) (U2 m)
    (fun c w => dat1_A (A2 m) c w)

/-- What rides beside the held buffers between items. -/
def rest (c : Dev nD) : sProp 𝕄 := iprop((∃ W, owes (c : Thread nD τ) (0 : CellTallies nD τ sig Unit) W) ∗ emp ∗ emp)

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

set_option backward.isDefEq.respectTransparency.types false in
theorem reg0_pre (c : Dev nD) : iprop(StableHlo.held (c : Thread nD τ) (Pipeline.ucRefs τ sig) (U1 m c) ∗ rest (F := F) c) ⊢ (reg0 m).pre c :=
  by unfold reg0 rest; exact Entails.trans .rfl (RegionSeg.ofHeldIn_pre (pcs := pcfgs (F := F)) (p := 0) (D := fun _ => 0) (X := fun _ => iprop(emp)) (R := fun _ => iprop(emp)) (W := U1 m) (sub0 (F := F)) c)
set_option backward.isDefEq.respectTransparency.types false in
theorem reg0_post (c : Dev nD) : (reg0 m).post c ⊢ iprop(StableHlo.held (c : Thread nD τ) (Pipeline.ucRefs τ sig) (U2 m c) ∗ rest (F := F) c) :=
  by unfold reg0 rest; exact Entails.trans (RegionSeg.ofHeldIn_post (pcs := pcfgs (F := F)) (p := 0) (D := fun _ => 0) (Y := fun _ => iprop(emp)) (R := fun _ => iprop(emp)) (W := U1 m) (sub0 (F := F)) c) .rfl
set_option backward.isDefEq.respectTransparency.types false in
theorem reg1_pre (c : Dev nD) : iprop(StableHlo.held (c : Thread nD τ) (Pipeline.ucRefs τ sig) (U2 m c) ∗ rest (F := F) c) ⊢ (reg1 m).pre c :=
  by unfold reg1 rest; exact Entails.trans .rfl (RegionSeg.ofHeldIn_pre (pcs := pcfgs (F := F)) (p := 1) (D := fun _ => 0) (X := fun _ => iprop(emp)) (R := fun _ => iprop(emp)) (W := U2 m) (sub1 (F := F)) c)
set_option backward.isDefEq.respectTransparency.types false in
theorem reg1_post (c : Dev nD) : (reg1 m).post c ⊢ iprop(StableHlo.held (c : Thread nD τ) (Pipeline.ucRefs τ sig) (U3 m c) ∗ rest (F := F) c) :=
  by unfold reg1 rest; exact Entails.trans (RegionSeg.ofHeldIn_post (pcs := pcfgs (F := F)) (p := 1) (D := fun _ => 0) (Y := fun _ => iprop(emp)) (R := fun _ => iprop(emp)) (W := U2 m) (sub1 (F := F)) c) .rfl

/-! ## The launch -/

/-- @main's items. -/
abbrev items (c : Dev nD) : List (Seg (pcfgs (F := F)) adm (pdats m) () defs₀ Variants.none lvlIx lvl) :=
  segs m Variants.none lvlIx lvl (fun _ => rest (F := F)) () (pdats m) (reg0 m) (reg1 m) c

/-- The library's launch element. -/
def u₀ : UR sig nD τ := initOf (Pipeline.cells cfgs cellOf_inj) (Pipeline.launchToks cfgs cellOf_inj)

/-- What the final memory holds on core `c`. -/
def Final (c : Dev nD) (s : MemSt nD τ sig (Elt F)) : Prop :=
  s.mem ((c.tc : Thread nD τ).loc main_v2) = U3 m c main_v2
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)

set_option backward.isDefEq.respectTransparency.types false in
/-- From any memory with zero counters every weakly fair execution of @main terminates, each argument as launched, the result at `U3`, every counter zero. -/
theorem run : θ_run defs (onTc (τ := τ) (main (F := F))) ⟨m, fun _ => 0, ρ⟩ (fun r => (∀ c : Dev nD, Final m c r.2) ∧ r.2.sem = fun _ => 0) := by
  refine Pipeline.θ_run_regions_kit_dev_sems (pcfgs (F := F)) adm (pdats m) () cellOf_inj (emb₁ : Emb (UR sig nD τ) 𝕄) defs₀ Variants.none lvlIx lvl m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [items, segs, Seg.pipes_host, Seg.pipes_region, Seg.pipes_nil]; decide) (O₀ := 0) lvlIx_off (G := fun _ => iprop(emp)) u₀
    (by
      iintro Hu
      ihave H := (show (ownU (u₀ : UR sig nD τ) : sProp 𝕄) ⊢ BI.own ((emb₁ : Emb (UR sig nD τ) 𝕄) (initOf (Pipeline.cells cfgs cellOf_inj) (Pipeline.launchToks cfgs cellOf_inj))) from .rfl) $$ Hu
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest (F := F) c))
    (Tₙ := fun c => StableHlo.held (c : Thread nD τ) (Pipeline.ucRefs τ sig) (U3 m c))
    (hch := fun c => ⟨.rfl, reg0_pre m c, (reg0_post m c).trans (reg1_pre m c), (reg1_post m c).trans (sep_mono .rfl (by unfold rest; iintro ⟨H, -⟩; iexact H))⟩)
    (hinit := ?_) (QY := Final m)
    (hfin := fun c s' => ?_) (hQ := fun _ h hz => ⟨h, funext fun g => hz g (.inr (regions_no_unscoped g.2))⟩)
  · refine Pipeline.initEach lvlIx lvl fun c => ?_
    rw [show unscopedBufs c (fun b => m ((c : Thread nD τ).loc b)) = StableHlo.held (c : Thread nD τ) (Pipeline.ucRefs τ sig) (V0 m c) from Pipeline.unscopedBufs_held c (V0 m c)]
    unfold rest
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (U3 m c) s') $$ [Hh HSI]
    · isplitl [Hh] <;> iassumption
    icases Hr with ⟨%h, HSI⟩
    imodintro
    isplitr
    · ipureintro
      exact ⟨h (Proc.devRef .tc main_v2) (Finset.mem_filter.mpr ⟨StableHlo.devRef_mem_tcRefs main_v2, by decide⟩),
        (h (Proc.devRef .tc main_arg0) (Finset.mem_filter.mpr ⟨StableHlo.devRef_mem_tcRefs main_arg0, by decide⟩)).trans (U3_main_arg0 m c),
        (h (Proc.devRef .tc main_arg1) (Finset.mem_filter.mpr ⟨StableHlo.devRef_mem_tcRefs main_arg1, by decide⟩)).trans (U3_main_arg1 m c),
        (h (Proc.devRef .tc main_arg2) (Finset.mem_filter.mpr ⟨StableHlo.devRef_mem_tcRefs main_arg2, by decide⟩)).trans (U3_main_arg2 m c),
        (h (Proc.devRef .tc main_arg3) (Finset.mem_filter.mpr ⟨StableHlo.devRef_mem_tcRefs main_arg3, by decide⟩)).trans (U3_main_arg3 m c),
        (h (Proc.devRef .tc main_arg4) (Finset.mem_filter.mpr ⟨StableHlo.devRef_mem_tcRefs main_arg4, by decide⟩)).trans (U3_main_arg4 m c),
        (h (Proc.devRef .tc main_arg5) (Finset.mem_filter.mpr ⟨StableHlo.devRef_mem_tcRefs main_arg5, by decide⟩)).trans (U3_main_arg5 m c)⟩
    · iexact HSI

end Cert.KernelIdeal.Hand

end
-- ==== Proof.Math.lean ====
/-
  Arithmetic of extended reals that are all finite: what the kernel's order of sums and products and the reference's have in
  common.
-/
module

public import Idealize.ShloMosaic.PureOps.Ideal.Laws
public import Mathlib.Data.EReal.Operations
public import Mathlib.Algebra.BigOperators.Fin
public import Mathlib.Tactic.Ring
public import Mathlib.Tactic.NormNum

@[expose] public section

noncomputable section

namespace Cert.Hand

open Idealize.ShloMosaic
open scoped BigOperators

/-- An extended real that is a real number. -/
def IsReal (x : EReal) : Prop := ∃ r : ℝ, x = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type*} (s : Finset ι) {f : ι → EReal} (h : ∀ i, IsReal (f i)) : IsReal (∑ i ∈ s, f i) := by
  choose r hr using h
  exact ⟨∑ i ∈ s, r i, by rw [coe_sum]; exact Finset.sum_congr rfl fun i _ => hr i⟩

/-- What absolute value below infinity says. -/
theorem fin_of_abs_lt {x : EReal} (h : max x (-x) < ⊤) : IsReal x := by
  induction x with
  | bot => simp at h
  | top => simp at h
  | coe r => exact ⟨r, rfl⟩

/-- The two constants are real numbers. -/
theorem fin_c9 : IsReal (Ideal.ofBits .f32 0x3F666666#32) := by
  simp only [Ideal.ofBits, Ideal.ieee]
  rw [if_neg (by decide), if_neg (by decide)]
  exact ⟨_, rfl⟩

theorem fin_c1 : IsReal (Ideal.ofBits .f32 0x3DCCCCCD#32) := by
  simp only [Ideal.ofBits, Ideal.ieee]
  rw [if_neg (by decide), if_neg (by decide)]
  exact ⟨_, rfl⟩

/-- Seven models' contributions added one after another, each with its two scaled parts, are the two scaled sums over the models. -/
theorem rhs_eq {n : ℕ} {c9 c1 : EReal} (h9 : IsReal c9) (h1 : IsReal c1) (w g : Fin 7 → Fin n → EReal) (v d : Fin 7 → EReal)
    (hw : ∀ k l, IsReal (w k l)) (hg : ∀ k l, IsReal (g k l)) (hv : ∀ k, IsReal (v k)) (hd : ∀ k, IsReal (d k)) :
    (∑ k : Fin 7, (c9 * (∑ l, w k l * g k l) + v k * (c1 * d k)))
      = c9 * (∑ k, ∑ l, w k l * g k l) + c1 * ∑ k, v k * d k := by
  obtain ⟨c9, rfl⟩ := h9; obtain ⟨c1, rfl⟩ := h1
  choose w' hw using hw
  choose g' hg using hg
  choose v' hv using hv
  choose d' hd using hd
  simp only [hw, hg, hv, hd, ← EReal.coe_mul, ← coe_sum, ← EReal.coe_add, EReal.coe_eq_coe_iff]
  rw [Finset.sum_add_distrib, Finset.mul_sum, Finset.mul_sum]
  exact congrArg _ (Finset.sum_congr rfl fun k _ => by ring)

/-- A row of real numbers against three columns of real numbers: the six products of the three planes, of which the second and the
    third are the row less itself, add up to the row against the columns' sum. -/
theorem merge_eq {n : ℕ} (R a1 a2 a3 : Fin n → EReal) (hR : ∀ l, IsReal (R l)) (h1 : ∀ l, IsReal (a1 l)) (h2 : ∀ l, IsReal (a2 l))
    (h3 : ∀ l, IsReal (a3 l)) :
    (((((∑ l, ((R l - R l) - (R l - R l)) * a1 l) + ∑ l, (R l - R l) * a2 l) + ∑ l, R l * a3 l) + ∑ l, (R l - R l) * a1 l)
        + ∑ l, R l * a2 l) + ∑ l, R l * a1 l
      = ∑ l, R l * (a1 l + a2 l + a3 l) := by
  choose R' hR using hR
  choose b1 h1 using h1
  choose b2 h2 using h2
  choose b3 h3 using h3
  simp only [hR, h1, h2, h3, ← EReal.coe_sub, ← EReal.coe_mul, ← EReal.coe_add, ← coe_sum, EReal.coe_eq_coe_iff]
  simp only [← Finset.sum_add_distrib]
  exact Finset.sum_congr rfl fun l _ => by ring

/-- A sum that keeps the one term at position `j`. -/
theorem sum_diag {n : ℕ} (hn : n ≤ 2 ^ 32) (f : Fin n → EReal) (j : Fin n) :
    (∑ x, Scalar.select (IntOp.cmpi .eq (BitVec.ofNat 32 x.val) (BitVec.ofNat 32 j.val)) (f x) 0) = f j := by
  rw [Finset.sum_eq_single j]
  · simp [IntOp.cmpi, Scalar.select]
  · intro x _ hx
    have hne : BitVec.ofNat 32 x.val ≠ BitVec.ofNat 32 j.val := by
      intro h
      have := congrArg BitVec.toNat h
      simp only [BitVec.toNat_ofNat] at this
      rw [Nat.mod_eq_of_lt (by omega), Nat.mod_eq_of_lt (by omega)] at this
      exact hx (Fin.ext this)
    have hb : (BitVec.ofNat 32 x.val == BitVec.ofNat 32 j.val) = false := beq_false_of_ne hne
    simp [IntOp.cmpi, Scalar.select, hb]
  · intro h; exact absurd (Finset.mem_univ j) h

end Cert.Hand

end
-- ==== Proof.KI.Pay.lean ====
/-
  The kernel's payloads at the extended reals, read at an index: the dequantised chunk, one accumulation step, the
  diagonal of a square, the three planes of a tile and one tile of the merged product.
-/
module

public import proofs.«01_k».proof.Proof.Gen.KernelIdeal.Skeleton
public import proofs.«01_k».proof.Proof.Math
public import Idealize.ShloMosaic.Lib.Pointwise

@[expose] public section

set_option maxRecDepth 16384

noncomputable section

namespace Cert.KernelIdeal.Hand

open Cert.KernelIdeal Cert.KernelIdeal.Gen Idealize.ShloMosaic

theorem pay14_apply (s : Vec Ideal S1x256x1 .f32) (q : Vec Ideal S1x256x3072 .i8) (r : Fin 256) (k : Fin 3072) :
    k0_pay14 s q (ix3 0 r k) = (((q (ix3 0 r k)).toInt : ℝ) : EReal) * s (ix3 0 r 0) := by
  pointwise [k0_pay14]
  rfl

theorem pay15_apply (x : Vec Ideal S1x768x768 .bf16) (j : Fin 768) :
    k0_pay15 x (ix2 0 j) = x (ix3 0 j j) := by
  pointwise [k0_pay15]
  exact Cert.Hand.sum_diag (by norm_num) (fun r => x (ix3 0 r j)) j

theorem pay17_apply (x : Vec Ideal S1x3072x768 .bf16) (l : Fin 3072) (j : Fin 768) :
    k0_pay17 x (ix2 l j) = x (ix3 0 l j) := by
  pointwise [k0_pay17]

theorem pay2_apply (b : BitVec 32) (dg : FVec Ideal S1x768 .f32) (M : FVec Ideal S1024x3072 .bf16)
    (G : FVec Ideal S3072x768 .bf16) (w : Vec Ideal S1024x768 .bf16) (p : Vec Ideal S1x1024x768 .f32) (r : Fin 1024) (j : Fin 768) :
    k0_pay2 b dg M G w p (ix3 0 r j)
      = Scalar.select (Scalar.cmpi .eq b 0#32) 0 (p (ix3 0 r j))
        + (Ideal.ofBits .f32 0x3F666666#32 * (∑ l : Fin 3072, M (ix2 r l) * G (ix2 l j))
          + w (ix2 r j) * (Ideal.ofBits .f32 0x3DCCCCCD#32 * dg (ix2 0 j))) := by
  pointwise [k0_pay2]

theorem pay4_apply (x : Vec Ideal S1x1024x768 .f32) (r : Fin 1024) (j : Fin 768) :
    k0_pay4 x (ix2 r j) = x (ix3 0 r j) := by
  pointwise [k0_pay4, k0_pay3]

theorem pay6_apply (x : Vec Ideal S1x1024x768 .f32) (r : Fin 1024) (j : Fin 768) :
    k0_pay6 x (ix2 r j) = x (ix3 0 r j) - x (ix3 0 r j) := by
  pointwise [k0_pay6, k0_pay5, k0_pay4, k0_pay3]

theorem pay7_apply (x : Vec Ideal S1x1024x768 .f32) (r : Fin 1024) (j : Fin 768) :
    k0_pay7 x (ix2 r j) = (x (ix3 0 r j) - x (ix3 0 r j)) - (x (ix3 0 r j) - x (ix3 0 r j)) := by
  pointwise [k0_pay7, k0_pay6, k0_pay5, k0_pay4, k0_pay3]

theorem solve_apply (x0 x1 x2 : Vec Ideal S1024x3072 .bf16) (x3 x4 x5 : Vec Ideal S3072x256 .bf16) (r : Fin 1024) (j : Fin 256) :
    k1_pay1 (k1_pay2 x2 x3 x1 x4 x0 x5 x1 x3 x0 x4) (k1_pay3 x0 x3) (ix2 r j)
      = (((((∑ l : Fin 3072, x2 (ix2 r l) * x3 (ix2 l j)) + ∑ l : Fin 3072, x1 (ix2 r l) * x4 (ix2 l j))
          + ∑ l : Fin 3072, x0 (ix2 r l) * x5 (ix2 l j)) + ∑ l : Fin 3072, x1 (ix2 r l) * x3 (ix2 l j))
          + ∑ l : Fin 3072, x0 (ix2 r l) * x4 (ix2 l j)) + ∑ l : Fin 3072, x0 (ix2 r l) * x3 (ix2 l j) := by
  pointwise [k1_pay1, k1_pay2, k1_pay3]

end Cert.KernelIdeal.Hand

end
-- ==== Proof.KI.ValueAcc.lean ====
/-
  The accumulator at the extended reals, read at an index: after the seven steps of a row block, each element is the sum over the
  models of the scaled product and the scaled diagonal part, in terms of the three arguments of the first region.
-/
module

public import proofs.«01_k».proof.Proof.KI.Pay
public import proofs.«01_k».proof.Proof.KI.Rhs
public import Idealize.ShloMosaic.Lib.Pointwise.IndexBridge

@[expose] public section

set_option maxRecDepth 16384

noncomputable section

namespace Cert.KernelIdeal.Hand

open Cert.KernelIdeal Cert.KernelIdeal.Gen Idealize.ShloMosaic Idealize.ShloMosaic.TcCoe
open scoped BigOperators

/-! ## One step -/

theorem not_first_model : ∀ i : grid0.Coords, 0 < (i 0).val → ((i 0).val - 1) % 7 ≠ 0 →
    Scalar.cmpi .eq (Scalar.remsi (Scalar.subi (BitVec.ofNat 32 (i 0).val) 1#32) 7#32) 0#32 = 0#1 := by decide +kernel

section Step

variable (B0 : Fin grid0.N → S1x256x3072.Idx → Elt Ideal .i8) (B1 : Fin grid0.N → S1x256x1.Idx → Elt Ideal .f32)
  (B2 : Fin grid0.N → S1x3072x768.Idx → Elt Ideal .bf16)

/-- A dequantised element: code times scale. -/
theorem wbAt_apply (t : ℕ) (r : Fin 1024) (k : Fin 3072) :
    wbAt B0 B1 t r k = (((B0 (pt (4 * t + r.val / 256)) (ix3 0 (⟨r.val % 256, Nat.mod_lt _ (by decide)⟩ : Fin 256) k)).toInt : ℝ) : EReal)
      * B1 (pt (4 * t + r.val / 256)) (ix3 0 (⟨r.val % 256, Nat.mod_lt _ (by decide)⟩ : Fin 256) 0) := by
  unfold wbAt chunk
  rw [← ix3_eq_valueIdx]
  exact pay14_apply _ _ _ _

/-- One model's contribution to an element of column tile `i`. -/
def addend (t : ℕ) (i : Fin 4) (r : Fin 1024) (j : Fin 768) : EReal :=
  Ideal.ofBits .f32 0x3F666666#32 * (∑ l : Fin 3072, wbAt B0 B1 t r l * B2 (pt (4 * (t + 1) + i.val)) (ix3 0 l j))
    + wbAt B0 B1 t r ⟨768 * i.val + j.val, by omega⟩
      * (Ideal.ofBits .f32 0x3DCCCCCD#32 * B2 (pt (4 * (t + 1) + i.val)) (ix3 0 ⟨768 * i.val + j.val, by omega⟩ j))

theorem coords_pt (t : ℕ) (i : Fin 4) (ht : t < 85) :
    ((grid0.coords (pt (4 * t + i.val))) 0).val = t ∧ ((grid0.coords (pt (4 * t + i.val))) 1).val = i.val := by
  have h := coords_val (pt (4 * t + i.val))
  have e : (pt (4 * t + i.val)).val = 4 * t + i.val := Nat.mod_eq_of_lt (by omega)
  rw [e] at h
  exact ⟨h.1.trans (by omega), h.2.trans (by omega)⟩

/-- One step at an element: what was there, or zero at a row block's first model, plus the model's contribution. -/
theorem accV_succ (t : ℕ) (i : Fin 4) (ht : t < 84) (r : Fin 1024) (j : Fin 768) :
    accV B0 B1 B2 (t + 1) i.val (ix3 0 r j)
      = (if t % 7 = 0 then 0 else accV B0 B1 B2 t i.val (ix3 0 r j)) + addend B0 B1 B2 t i r j := by
  obtain ⟨e0, e1⟩ := coords_pt (t + 1) i (by omega)
  rw [accV]
  unfold accStep
  rw [pay2_apply, pay15_apply]
  have hs : ∀ x : EReal, Scalar.select (Scalar.cmpi .eq (Scalar.remsi (Scalar.subi (BitVec.ofNat 32 ((grid0.coords (pt (4 * (t + 1) + i.val))) 0).val) 1#32) 7#32) 0#32) 0 x
      = if t % 7 = 0 then 0 else x := by
    intro x
    by_cases h : t % 7 = 0
    · rw [if_pos h, first_model _ (by omega) (by rw [e0]; simpa using h)]; rfl
    · rw [if_neg h, not_first_model _ (by omega) (by rw [e0]; simpa using h)]; rfl
  rw [hs]
  refine congrArg _ ?_
  unfold addend
  congr 1
  · refine congrArg _ (Finset.sum_congr rfl fun l _ => ?_)
    rw [pay17_apply]
    rfl
  · have ew : VecWindow.window (wbMat B0 B1 t) (colOff (grid0.coords (pt (4 * (t + 1) + i.val)))) S1024x768.size (colOff_inb _) (ix2 r j)
        = wbAt B0 B1 t r ⟨768 * i.val + j.val, by omega⟩ := by
      unfold VecWindow.window wbMat
      congr 1
      · apply Fin.ext
        show 0 + 1 * r.val = r.val
        omega
      · apply Fin.ext
        show 768 * ((grid0.coords (pt (4 * (t + 1) + i.val))) 1).val + 1 * j.val = 768 * i.val + j.val
        rw [e1]; omega
    have ed : VecWindow.window (B2 (pt (4 * (t + 1) + i.val))) (diagOff (grid0.coords (pt (4 * (t + 1) + i.val)))) S1x768x768.size (diagOff_inb _) (ix3 0 j j)
        = B2 (pt (4 * (t + 1) + i.val)) (ix3 0 ⟨768 * i.val + j.val, by omega⟩ j) := by
      unfold VecWindow.window
      congr 1
      funext a
      apply Fin.ext
      match a with
      | ⟨0, _⟩ => rfl
      | ⟨1, _⟩ =>
        show 768 * ((grid0.coords (pt (4 * (t + 1) + i.val))) 1).val + 1 * j.val = 768 * i.val + j.val
        rw [e1]; omega
      | ⟨2, _⟩ => show 0 + 1 * j.val = j.val; omega
    exact congrArg₂ (· * ·) ew (congrArg _ ed)

/-- After the first `m` models of row block `b`: the sum of their contributions. -/
theorem accV_models (b : ℕ) (hb : b < 12) (i : Fin 4) (r : Fin 1024) (j : Fin 768) (m : ℕ) (hm : m < 7) :
    accV B0 B1 B2 (7 * b + (m + 1)) i.val (ix3 0 r j) = ∑ k ∈ Finset.range (m + 1), addend B0 B1 B2 (7 * b + k) i r j := by
  induction m with
  | zero =>
    rw [show 7 * b + (0 + 1) = (7 * b) + 1 from rfl, accV_succ B0 B1 B2 _ i (by omega), if_pos (by omega), zero_add]
    simp
  | succ m ih =>
    rw [show 7 * b + (m + 1 + 1) = (7 * b + (m + 1)) + 1 from rfl, accV_succ B0 B1 B2 _ i (by omega), if_neg (by omega), ih (by omega),
      ← Finset.sum_range_succ (fun k => addend B0 B1 B2 (7 * b + k) i r j)]

/-- After the seven models of row block `b`. -/
theorem accV_block (b : ℕ) (hb : b < 12) (i : Fin 4) (r : Fin 1024) (j : Fin 768) :
    accV B0 B1 B2 (7 * (b + 1)) i.val (ix3 0 r j) = ∑ k : Fin 7, addend B0 B1 B2 (7 * b + k.val) i r j := by
  have h := accV_models B0 B1 B2 b hb i r j 6 (by omega)
  rw [show 7 * (b + 1) = 7 * b + (6 + 1) by omega, h]
  exact Finset.sum_range (n := 7) fun k => addend B0 B1 B2 (7 * b + k) i r j

end Step

/-! ## The blocks -/

theorem idx_codes : ∀ t : Fin grid0.N, win0_0.index t 0 = min (t.val / 4) 83 % 7
    ∧ win0_0.index t 1 = min (t.val / 4) 83 / 7 * 4 + t.val % 4 ∧ win0_0.index t 2 = 0 := by decide +kernel
theorem idx_scales : ∀ t : Fin grid0.N, win0_1.index t 0 = min (t.val / 4) 83 % 7
    ∧ win0_1.index t 1 = min (t.val / 4) 83 / 7 * 4 + t.val % 4 ∧ win0_1.index t 2 = 0 := by decide +kernel
theorem idx_grams : ∀ t : Fin grid0.N, 4 ≤ t.val → win0_2.index t 0 = (t.val / 4 - 1) % 7
    ∧ win0_2.index t 1 = 0 ∧ win0_2.index t 2 = t.val % 4 := by decide +kernel

section Blocks

variable (V : (c : Dev nD) → (b : Ref sig .tc) → Buf (Elt Ideal) ((c : Thread nD τ).loc b)) (c : Dev nD)

theorem codesB_apply (t : ℕ) (ht : t < 84) (r : Fin 1024) (k : Fin 3072) :
    codesB V c (pt (4 * t + r.val / 256)) (ix3 0 (⟨r.val % 256, Nat.mod_lt _ (by decide)⟩ : Fin 256) k)
      = V c main_arg1 (ix3 (⟨t % 7, Nat.mod_lt _ (by decide)⟩ : Fin 7) (⟨t / 7 * 1024 + r.val, by omega⟩ : Fin 12288) k) := by
  obtain ⟨h0, h1, h2⟩ := idx_codes (pt (4 * t + r.val / 256))
  have e : (pt (4 * t + r.val / 256)).val = 4 * t + r.val / 256 := Nat.mod_eq_of_lt (by omega)
  rw [e] at h0 h1
  show V c main_arg1 (((cfg0.win 0).blk (pt (4 * t + r.val / 256))).view.emb _) = _
  congr 1
  funext a
  apply Fin.ext
  match a with
  | ⟨0, _⟩ => show win0_0.index (pt (4 * t + r.val / 256)) 0 * 1 + 1 * 0 = t % 7; rw [h0]; omega
  | ⟨1, _⟩ => show win0_0.index (pt (4 * t + r.val / 256)) 1 * 256 + 1 * (r.val % 256) = t / 7 * 1024 + r.val; rw [h1]; omega
  | ⟨2, _⟩ => show win0_0.index (pt (4 * t + r.val / 256)) 2 * 3072 + 1 * k.val = k.val; rw [h2]; omega

theorem scalesB_apply (t : ℕ) (ht : t < 84) (r : Fin 1024) :
    scalesB V c (pt (4 * t + r.val / 256)) (ix3 0 (⟨r.val % 256, Nat.mod_lt _ (by decide)⟩ : Fin 256) 0)
      = V c main_v0 (ix3 (⟨t % 7, Nat.mod_lt _ (by decide)⟩ : Fin 7) (⟨t / 7 * 1024 + r.val, by omega⟩ : Fin 12288) 0) := by
  obtain ⟨h0, h1, h2⟩ := idx_scales (pt (4 * t + r.val / 256))
  have e : (pt (4 * t + r.val / 256)).val = 4 * t + r.val / 256 := Nat.mod_eq_of_lt (by omega)
  rw [e] at h0 h1
  show V c main_v0 (((cfg0.win 1).blk (pt (4 * t + r.val / 256))).view.emb _) = _
  congr 1
  funext a
  apply Fin.ext
  match a with
  | ⟨0, _⟩ => show win0_1.index (pt (4 * t + r.val / 256)) 0 * 1 + 1 * 0 = t % 7; rw [h0]; omega
  | ⟨1, _⟩ => show win0_1.index (pt (4 * t + r.val / 256)) 1 * 256 + 1 * (r.val % 256) = t / 7 * 1024 + r.val; rw [h1]; omega
  | ⟨2, _⟩ => show win0_1.index (pt (4 * t + r.val / 256)) 2 * 1 + 1 * 0 = 0; rw [h2]

theorem gramsB_apply (t : ℕ) (ht : t < 84) (i : Fin 4) (l : Fin 3072) (j : Fin 768) :
    gramsB V c (pt (4 * (t + 1) + i.val)) (ix3 0 l j)
      = V c main_arg0 (ix3 (⟨t % 7, Nat.mod_lt _ (by decide)⟩ : Fin 7) l (⟨768 * i.val + j.val, by omega⟩ : Fin 3072)) := by
  have e : (pt (4 * (t + 1) + i.val)).val = 4 * (t + 1) + i.val := Nat.mod_eq_of_lt (by omega)
  obtain ⟨h0, h1, h2⟩ := idx_grams (pt (4 * (t + 1) + i.val)) (by omega)
  rw [e] at h0 h2
  show V c main_arg0 (((cfg0.win 2).blk (pt (4 * (t + 1) + i.val))).view.emb _) = _
  congr 1
  funext a
  apply Fin.ext
  match a with
  | ⟨0, _⟩ => show win0_2.index (pt (4 * (t + 1) + i.val)) 0 * 1 + 1 * 0 = t % 7; rw [h0]; omega
  | ⟨1, _⟩ => show win0_2.index (pt (4 * (t + 1) + i.val)) 1 * 3072 + 1 * l.val = l.val; rw [h1]; omega
  | ⟨2, _⟩ => show win0_2.index (pt (4 * (t + 1) + i.val)) 2 * 768 + 1 * j.val = 768 * i.val + j.val; rw [h2]; omega

end Blocks

/-! ## The right-hand side -/

/-- One weight: the code times its row's scale. -/
def wtK (q : Vec Ideal S7x12288x3072 .i8) (s : Vec Ideal S7x12288x1 .f32) (k : Fin 7) (o : Fin 12288) (l : Fin 3072) : EReal :=
  (((q (ix3 k o l)).toInt : ℝ) : EReal) * s (ix3 k o 0)

/-- One element of the right-hand side as the kernel adds it up. -/
def rhsK (q : Vec Ideal S7x12288x3072 .i8) (s : Vec Ideal S7x12288x1 .f32) (g : Vec Ideal S7x3072x3072 .bf16) (o : Fin 12288) (j : Fin 3072) : EReal :=
  ∑ k : Fin 7, (Ideal.ofBits .f32 0x3F666666#32 * (∑ l : Fin 3072, wtK q s k o l * g (ix3 k l j))
    + wtK q s k o j * (Ideal.ofBits .f32 0x3DCCCCCD#32 * g (ix3 k j j)))

/-- The accumulator after a row block's seven steps, in terms of the region's arguments. -/
theorem acc_rhs (V : (c : Dev nD) → (b : Ref sig .tc) → Buf (Elt Ideal) ((c : Thread nD τ).loc b)) (c : Dev nD)
    (b : ℕ) (hb : b < 12) (i : Fin 4) (r : Fin 1024) (j : Fin 768) :
    accV (codesB V c) (scalesB V c) (gramsB V c) (7 * (b + 1)) i.val (ix3 0 r j)
      = rhsK (V c main_arg1) (V c main_v0) (V c main_arg0) ⟨b * 1024 + r.val, by omega⟩ ⟨768 * i.val + j.val, by omega⟩ := by
  rw [accV_block _ _ _ b hb]
  unfold rhsK
  refine Finset.sum_congr rfl fun k _ => ?_
  have hk := k.isLt
  have hw : ∀ l : Fin 3072, wbAt (codesB V c) (scalesB V c) (7 * b + k.val) r l
      = wtK (V c main_arg1) (V c main_v0) k ⟨b * 1024 + r.val, by omega⟩ l := by
    intro l
    rw [wbAt_apply, codesB_apply V c _ (by omega), scalesB_apply V c _ (by omega)]
    unfold wtK
    have ek : (⟨(7 * b + k.val) % 7, Nat.mod_lt _ (by decide)⟩ : Fin 7) = k := Fin.ext (by show (7 * b + k.val) % 7 = k.val; omega)
    have eo : (⟨(7 * b + k.val) / 7 * 1024 + r.val, by omega⟩ : Fin 12288) = ⟨b * 1024 + r.val, by omega⟩ :=
      Fin.ext (by show (7 * b + k.val) / 7 * 1024 + r.val = b * 1024 + r.val; omega)
    rw [ek, eo]
  have hg : ∀ l : Fin 3072, gramsB V c (pt (4 * (7 * b + k.val + 1) + i.val)) (ix3 0 l j)
      = V c main_arg0 (ix3 k l (⟨768 * i.val + j.val, by omega⟩ : Fin 3072)) := by
    intro l
    rw [gramsB_apply V c _ (by omega)]
    have ek : (⟨(7 * b + k.val) % 7, Nat.mod_lt _ (by decide)⟩ : Fin 7) = k := Fin.ext (by show (7 * b + k.val) % 7 = k.val; omega)
    rw [ek]
  unfold addend
  rw [hw, hg]
  simp only [hw, hg]

end Cert.KernelIdeal.Hand

end
-- ==== Proof.KI.ValuePlanes.lean ====
/-
  The three planes of the right-hand side, as the first region leaves them: the right-hand side, what it leaves of itself, and what
  that leaves of itself.
-/
module

public import proofs.«01_k».proof.Proof.KI.ValueAcc
public import Idealize.ShloMosaic.Lib.Pipeline.ValueKit.Geometry

@[expose] public section

set_option maxRecDepth 16384

noncomputable section

namespace Cert.KernelIdeal.Hand

open Cert.KernelIdeal Cert.KernelIdeal.Gen Idealize.ShloMosaic Idealize.ShloMosaic.TcCoe Idealize.ShloMosaic.Pipeline

theorem idx_planes : ∀ t : Fin grid0.N, (0 < t.val / 4 ∧ t.val / 4 % 7 = 0) →
    (win0_3.index t 0 = t.val / 4 / 7 - 1 ∧ win0_3.index t 1 = t.val % 4)
    ∧ (win0_4.index t 0 = t.val / 4 / 7 - 1 ∧ win0_4.index t 1 = t.val % 4)
    ∧ (win0_5.index t 0 = t.val / 4 / 7 - 1 ∧ win0_5.index t 1 = t.val % 4) := by decide +kernel

theorem covers3 : (cfg0.win 3).Covers := (by decide +kernel : win0_3.Covers)
theorem covers4 : (cfg0.win 4).Covers := (by decide +kernel : win0_4.Covers)
theorem covers5 : (cfg0.win 5).Covers := (by decide +kernel : win0_5.Covers)

variable (V : (c : Dev nD) → (b : Ref sig .tc) → Buf (Elt Ideal) ((c : Thread nD τ).loc b)) (c : Dev nD)

/-- The right-hand side of the region's arguments. -/
abbrev rhsV (o : Fin 12288) (j : Fin 3072) : EReal := rhsK (V c main_arg1) (V c main_v0) (V c main_arg0) o j

/-- The accumulator at a point that writes a row block back. -/
theorem accAt_flush (t : Fin grid0.N) (hf : 0 < t.val / 4 ∧ t.val / 4 % 7 = 0) (r : Fin 1024) (j : Fin 768)
    (o : Fin 12288) (J : Fin 3072) (ho : o.val = (t.val / 4 / 7 - 1) * 1024 + r.val) (hJ : J.val = 768 * (t.val % 4) + j.val) :
    accAt V c t (ix3 0 r j) = rhsV V c o J := by
  have ht : t.val < 340 := Nat.lt_of_lt_of_eq t.isLt N_0
  have h := acc_rhs V c (t.val / 4 / 7 - 1) (by omega) ⟨t.val % 4, Nat.mod_lt _ (by decide)⟩ r j
  have e : 7 * (t.val / 4 / 7 - 1 + 1) = t.val / 4 := by omega
  rw [e] at h
  exact h.trans (congrArg₂ _ (Fin.ext ho.symm) (Fin.ext hJ.symm))

theorem plane1 : (dat0 V c).arrAt 3 cfg0.N = fun i : S12288x3072.Idx => rhsV V c (i 0) (i 1) := by
  refine (dat0 V c).arrAt_eq_of_covers 3 _ covers3 fun t hf y => ?_
  have hf' : 0 < t.val / 4 ∧ t.val / 4 % 7 = 0 := of_decide_eq_true ((flush0_3 t).symm.trans hf)
  obtain ⟨⟨h0, h1⟩, -, -⟩ := idx_planes t hf'
  rw [dat0_after3]
  show k0_pay4 (accAt V c t) y = rhsV V c (((cfg0.win 3).blk t).view.emb y 0) (((cfg0.win 3).blk t).view.emb y 1)
  refine (congrArg _ (eq_ix2 (n0 := 1024) (n1 := 768) y)).trans ?_
  refine (pay4_apply _ _ _).trans ?_
  refine accAt_flush V c t hf' _ _ _ _ ?_ ?_
  · show win0_3.index t 0 * 1024 + 1 * (y 0).val = _; rw [h0]; omega
  · show win0_3.index t 1 * 768 + 1 * (y 1).val = _; rw [h1]; omega

theorem plane2 : (dat0 V c).arrAt 4 cfg0.N = fun i : S12288x3072.Idx => rhsV V c (i 0) (i 1) - rhsV V c (i 0) (i 1) := by
  refine (dat0 V c).arrAt_eq_of_covers 4 _ covers4 fun t hf y => ?_
  have hf' : 0 < t.val / 4 ∧ t.val / 4 % 7 = 0 := of_decide_eq_true ((flush0_4 t).symm.trans hf)
  obtain ⟨-, ⟨h0, h1⟩, -⟩ := idx_planes t hf'
  rw [dat0_after4]
  have e := accAt_flush V c t hf' (y 0) (y 1) (((cfg0.win 4).blk t).view.emb y 0) (((cfg0.win 4).blk t).view.emb y 1)
    (by show win0_4.index t 0 * 1024 + 1 * (y 0).val = _; rw [h0]; omega)
    (by show win0_4.index t 1 * 768 + 1 * (y 1).val = _; rw [h1]; omega)
  show k0_pay6 (accAt V c t) y = rhsV V c (((cfg0.win 4).blk t).view.emb y 0) (((cfg0.win 4).blk t).view.emb y 1)
    - rhsV V c (((cfg0.win 4).blk t).view.emb y 0) (((cfg0.win 4).blk t).view.emb y 1)
  refine (congrArg _ (eq_ix2 (n0 := 1024) (n1 := 768) y)).trans ?_
  exact (pay6_apply _ _ _).trans (congrArg (fun z : EReal => z - z) e)

theorem plane3 : (dat0 V c).arrAt 5 cfg0.N = fun i : S12288x3072.Idx =>
    (rhsV V c (i 0) (i 1) - rhsV V c (i 0) (i 1)) - (rhsV V c (i 0) (i 1) - rhsV V c (i 0) (i 1)) := by
  refine (dat0 V c).arrAt_eq_of_covers 5 _ covers5 fun t hf y => ?_
  have hf' : 0 < t.val / 4 ∧ t.val / 4 % 7 = 0 := of_decide_eq_true ((flush0_5 t).symm.trans hf)
  obtain ⟨-, -, h0, h1⟩ := idx_planes t hf'
  rw [dat0_after5]
  have e := accAt_flush V c t hf' (y 0) (y 1) (((cfg0.win 5).blk t).view.emb y 0) (((cfg0.win 5).blk t).view.emb y 1)
    (by show win0_5.index t 0 * 1024 + 1 * (y 0).val = _; rw [h0]; omega)
    (by show win0_5.index t 1 * 768 + 1 * (y 1).val = _; rw [h1]; omega)
  show k0_pay7 (accAt V c t) y
    = (rhsV V c (((cfg0.win 5).blk t).view.emb y 0) (((cfg0.win 5).blk t).view.emb y 1) - rhsV V c (((cfg0.win 5).blk t).view.emb y 0) (((cfg0.win 5).blk t).view.emb y 1))
      - (rhsV V c (((cfg0.win 5).blk t).view.emb y 0) (((cfg0.win 5).blk t).view.emb y 1) - rhsV V c (((cfg0.win 5).blk t).view.emb y 0) (((cfg0.win 5).blk t).view.emb y 1))
  refine (congrArg _ (eq_ix2 (n0 := 1024) (n1 := 768) y)).trans ?_
  exact (pay7_apply _ _ _).trans (congrArg (fun z : EReal => (z - z) - (z - z)) e)

end Cert.KernelIdeal.Hand

end
-- ==== Proof.KI.ValueSolve.lean ====
/-
  The second region's result at the extended reals: at each index, the six products of the planes' rows against the columns of the
  inverse's three planes.
-/
module

public import proofs.«01_k».proof.Proof.KI.Pay
public import proofs.«01_k».proof.Proof.KI.Solve
public import Idealize.ShloMosaic.Lib.Pipeline.ValueKit.Geometry

@[expose] public section

set_option maxRecDepth 16384

noncomputable section

namespace Cert.KernelIdeal.Hand

open Cert.KernelIdeal Cert.KernelIdeal.Gen Idealize.ShloMosaic Idealize.ShloMosaic.TcCoe Idealize.ShloMosaic.Pipeline
open scoped BigOperators

theorem zero2 : (![0, 0] : Fin 2 → Nat) = fun _ => 0 := funext fun a => by fin_cases a <;> rfl

/-- The body's store, with its whole-block loads read. -/
theorem out1_6_eq {F : FTy → Type} [FloatOps F] (x0 x1 x2 : Vec F S1024x3072 .bf16) (x3 x4 x5 : Vec F S3072x256 .bf16) :
    out1_6 x0 x1 x2 x3 x4 x5 = k1_pay1 (k1_pay2 x2 x3 x1 x4 x0 x5 x1 x3 x0 x4) (k1_pay3 x0 x3) := by
  unfold out1_6 solvePay
  rw [View.canon_unit_zero zero2]
  simp only [View.ld_unit_zero (S := S1024x3072) zero2, View.ld_unit_zero (S := S3072x256) zero2]

theorem idx_solve : ∀ t : Fin grid1.N,
    (win1_0.index t 0 = t.val / 12 ∧ win1_0.index t 1 = 0) ∧ (win1_1.index t 0 = t.val / 12 ∧ win1_1.index t 1 = 0)
    ∧ (win1_2.index t 0 = t.val / 12 ∧ win1_2.index t 1 = 0) ∧ (win1_3.index t 0 = 0 ∧ win1_3.index t 1 = t.val % 12)
    ∧ (win1_4.index t 0 = 0 ∧ win1_4.index t 1 = t.val % 12) ∧ (win1_5.index t 0 = 0 ∧ win1_5.index t 1 = t.val % 12)
    ∧ (win1_6.index t 0 = t.val / 12 ∧ win1_6.index t 1 = t.val % 12) := by decide +kernel

theorem covers6 : (cfg1.win 6).Covers := (by decide +kernel : win1_6.Covers)

/-- The six products at an index. -/
def six (p1 p2 p3 : Vec Ideal S12288x3072 .bf16) (a1 a2 a3 : Vec Ideal S3072x3072 .bf16) (o : Fin 12288) (j : Fin 3072) : EReal :=
  (((((∑ l : Fin 3072, p3 (ix2 o l) * a1 (ix2 l j)) + ∑ l : Fin 3072, p2 (ix2 o l) * a2 (ix2 l j))
    + ∑ l : Fin 3072, p1 (ix2 o l) * a3 (ix2 l j)) + ∑ l : Fin 3072, p2 (ix2 o l) * a1 (ix2 l j))
    + ∑ l : Fin 3072, p1 (ix2 o l) * a2 (ix2 l j)) + ∑ l : Fin 3072, p1 (ix2 o l) * a1 (ix2 l j)

variable (V : (c : Dev nD) → (b : Ref sig .tc) → Buf (Elt Ideal) ((c : Thread nD τ).loc b)) (c : Dev nD)

theorem solved : (dat1 V c).arrAt 6 cfg1.N = fun i : S12288x3072.Idx =>
    six (V c main_v1_0) (V c main_v1_1) (V c main_v1_2) (V c main_arg3) (V c main_arg4) (V c main_arg5) (i 0) (i 1) := by
  refine (dat1 V c).arrAt_eq_of_covers 6 _ covers6 fun t hf y => ?_
  obtain ⟨⟨a0, a1⟩, ⟨b0, b1⟩, ⟨c0, c1⟩, ⟨d0, d1⟩, ⟨e0, e1⟩, ⟨f0, f1⟩, g0, g1⟩ := idx_solve t
  rw [dat1_after6, out1_6_eq]
  have ho : (((cfg1.win 6).blk t).view.emb y 0).val = t.val / 12 * 1024 + (y 0).val := by
    show win1_6.index t 0 * 1024 + 1 * (y 0).val = _; rw [g0]; omega
  have hj : (((cfg1.win 6).blk t).view.emb y 1).val = t.val % 12 * 256 + (y 1).val := by
    show win1_6.index t 1 * 256 + 1 * (y 1).val = _; rw [g1]; omega
  have r1 : ∀ l : Fin 3072, iblk1 V c 0 t (ix2 (n0 := 1024) (n1 := 3072) (y 0) l) = V c main_v1_0 (ix2 (((cfg1.win 6).blk t).view.emb y 0) l) := by
    intro l
    show V c main_v1_0 (((cfg1.win 0).blk t).view.emb _) = _
    congr 1; funext a; apply Fin.ext
    match a with
    | ⟨0, _⟩ => refine Eq.trans ?_ ho.symm; show win1_0.index t 0 * 1024 + 1 * (y 0).val = _; rw [a0]; omega
    | ⟨1, _⟩ => show win1_0.index t 1 * 3072 + 1 * l.val = l.val; rw [a1]; omega
  have r2 : ∀ l : Fin 3072, iblk1 V c 1 t (ix2 (n0 := 1024) (n1 := 3072) (y 0) l) = V c main_v1_1 (ix2 (((cfg1.win 6).blk t).view.emb y 0) l) := by
    intro l
    show V c main_v1_1 (((cfg1.win 1).blk t).view.emb _) = _
    congr 1; funext a; apply Fin.ext
    match a with
    | ⟨0, _⟩ => refine Eq.trans ?_ ho.symm; show win1_1.index t 0 * 1024 + 1 * (y 0).val = _; rw [b0]; omega
    | ⟨1, _⟩ => show win1_1.index t 1 * 3072 + 1 * l.val = l.val; rw [b1]; omega
  have r3 : ∀ l : Fin 3072, iblk1 V c 2 t (ix2 (n0 := 1024) (n1 := 3072) (y 0) l) = V c main_v1_2 (ix2 (((cfg1.win 6).blk t).view.emb y 0) l) := by
    intro l
    show V c main_v1_2 (((cfg1.win 2).blk t).view.emb _) = _
    congr 1; funext a; apply Fin.ext
    match a with
    | ⟨0, _⟩ => refine Eq.trans ?_ ho.symm; show win1_2.index t 0 * 1024 + 1 * (y 0).val = _; rw [c0]; omega
    | ⟨1, _⟩ => show win1_2.index t 1 * 3072 + 1 * l.val = l.val; rw [c1]; omega
  have s1 : ∀ l : Fin 3072, iblk1 V c 3 t (ix2 (n0 := 3072) (n1 := 256) l (y 1)) = V c main_arg3 (ix2 l (((cfg1.win 6).blk t).view.emb y 1)) := by
    intro l
    show V c main_arg3 (((cfg1.win 3).blk t).view.emb _) = _
    congr 1; funext a; apply Fin.ext
    match a with
    | ⟨0, _⟩ => show win1_3.index t 0 * 3072 + 1 * l.val = l.val; rw [d0]; omega
    | ⟨1, _⟩ => refine Eq.trans ?_ hj.symm; show win1_3.index t 1 * 256 + 1 * (y 1).val = _; rw [d1]; omega
  have s2 : ∀ l : Fin 3072, iblk1 V c 4 t (ix2 (n0 := 3072) (n1 := 256) l (y 1)) = V c main_arg4 (ix2 l (((cfg1.win 6).blk t).view.emb y 1)) := by
    intro l
    show V c main_arg4 (((cfg1.win 4).blk t).view.emb _) = _
    congr 1; funext a; apply Fin.ext
    match a with
    | ⟨0, _⟩ => show win1_4.index t 0 * 3072 + 1 * l.val = l.val; rw [e0]; omega
    | ⟨1, _⟩ => refine Eq.trans ?_ hj.symm; show win1_4.index t 1 * 256 + 1 * (y 1).val = _; rw [e1]; omega
  have s3 : ∀ l : Fin 3072, iblk1 V c 5 t (ix2 (n0 := 3072) (n1 := 256) l (y 1)) = V c main_arg5 (ix2 l (((cfg1.win 6).blk t).view.emb y 1)) := by
    intro l
    show V c main_arg5 (((cfg1.win 5).blk t).view.emb _) = _
    congr 1; funext a; apply Fin.ext
    match a with
    | ⟨0, _⟩ => show win1_5.index t 0 * 3072 + 1 * l.val = l.val; rw [f0]; omega
    | ⟨1, _⟩ => refine Eq.trans ?_ hj.symm; show win1_5.index t 1 * 256 + 1 * (y 1).val = _; rw [f1]; omega
  show k1_pay1 (k1_pay2 (iblk1 V c 2 t) (iblk1 V c 3 t) (iblk1 V c 1 t) (iblk1 V c 4 t) (iblk1 V c 0 t) (iblk1 V c 5 t) (iblk1 V c 1 t) (iblk1 V c 3 t) (iblk1 V c 0 t) (iblk1 V c 4 t))
      (k1_pay3 (iblk1 V c 0 t) (iblk1 V c 3 t)) y
    = six (V c main_v1_0) (V c main_v1_1) (V c main_v1_2) (V c main_arg3) (V c main_arg4) (V c main_arg5)
      (((cfg1.win 6).blk t).view.emb y 0) (((cfg1.win 6).blk t).view.emb y 1)
  refine (congrArg _ (eq_ix2 (n0 := 1024) (n1 := 256) y)).trans ?_
  refine (solve_apply _ _ _ _ _ _ _ _).trans ?_
  unfold six
  simp only [r1, r2, r3, s1, s2, s3]

end Cert.KernelIdeal.Hand

end
-- ==== Proof.RefPay.lean ====
/-
  The reference's one payload at the extended reals, read at an index.
-/
module

public import proofs.«01_k».proof.Proof.Gen.ReferenceIdeal.Skeleton
public import proofs.«01_k».proof.Proof.Math
public import Idealize.ShloMosaic.Lib.Pointwise

@[expose] public section

set_option maxRecDepth 16384

noncomputable section

namespace Cert.ReferenceIdeal.Hand

open Cert.ReferenceIdeal Cert.ReferenceIdeal.Gen Idealize.ShloMosaic

/-- One weight: the code times its row's scale. -/
def wt (q : Vec Ideal S7x12288x3072 .i8) (s : Vec Ideal S7x12288 .f32) (k : Fin 7) (o : Fin 12288) (l : Fin 3072) : EReal :=
  (((q (ix3 k o l)).toInt : ℝ) : EReal) * s (ix2 k o)

/-- One element of the right-hand side: the scaled sum of the models' products and the scaled sum of their diagonal parts. -/
def rhs (q : Vec Ideal S7x12288x3072 .i8) (s : Vec Ideal S7x12288 .f32) (g : Vec Ideal S7x3072x3072 .bf16) (o : Fin 12288) (j : Fin 3072) : EReal :=
  Ideal.ofBits .f32 0x3F666666#32 * (∑ k : Fin 7, ∑ l : Fin 3072, wt q s k o l * g (ix3 k l j))
    + Ideal.ofBits .f32 0x3DCCCCCD#32 * ∑ k : Fin 7, wt q s k o j * g (ix3 k j j)

/-- The result at an index: the right-hand side's row against the column of the three planes' sum. -/
theorem pay_apply (q : Vec Ideal S7x12288x3072 .i8) (s : Vec Ideal S7x12288 .f32) (g : Vec Ideal S7x3072x3072 .bf16)
    (a1 a2 a3 : Vec Ideal S3072x3072 .bf16) (o : Fin 12288) (j : Fin 3072) :
    k0_pay1 q s g a1 a2 a3 (ix2 o j)
      = ∑ l : Fin 3072, rhs q s g o l * (a1 (ix2 l j) + a2 (ix2 l j) + a3 (ix2 l j)) := by
  pointwise [k0_pay1]
  refine Finset.sum_congr rfl fun l _ => ?_
  simp only [Cert.Hand.sum_diag (n := 3072) (by norm_num)]
  rfl

end Cert.ReferenceIdeal.Hand

end
-- ==== Proof.KI.Value.lean ====
/-
  The kernel's result at the extended reals: at real arguments it is the reference's function of them.
-/
module

public import proofs.«01_k».proof.Proof.KI.ValuePlanes
public import proofs.«01_k».proof.Proof.KI.ValueSolve
public import proofs.«01_k».proof.Proof.KI.Run
public import proofs.«01_k».proof.Proof.RefPay

@[expose] public section

set_option maxRecDepth 16384

noncomputable section

namespace Cert.KernelIdeal.Hand

open Cert.KernelIdeal Cert.KernelIdeal.Gen Idealize.ShloMosaic Idealize.ShloMosaic.TcCoe Idealize.ShloMosaic.Pipeline
open scoped BigOperators
open Cert.Hand (IsReal)

variable (m : (ℓ : Loc nD τ sig) → Buf (Elt Ideal) ℓ) (c : Dev nD)

theorem column_apply (s : Vec Ideal S7x12288 .f32) (h : S7x12288.ShapeCasts S7x12288x1) (k : Fin 7) (o : Fin 12288) :
    shapeCast S7x12288x1 s h (ix3 k o 0) = s (ix2 k o) := by
  pointwise []

/-- The scales' column is the scales. -/
theorem scales_apply (k : Fin 7) (o : Fin 12288) :
    A1 m c main_v0 (ix3 k o 0) = m ((c : Thread nD τ).loc main_arg2) (ix2 k o) := by
  have e : U1 m c main_v0 = shapeCast S7x12288x1 (m ((c : Thread nD τ).loc main_arg2)) shapeCasts_S7x12288_S7x12288x1 := by
    unfold U1 V1
    rw [StableHlo.after_cons, StableHlo.after_nil, StableHlo.reshape_result]
    rfl
  exact (congrFun e (ix3 k o 0)).trans (column_apply _ _ k o)

section Math
variable (q : Vec Ideal S7x12288x3072 .i8) (s : Vec Ideal S7x12288 .f32) (s' : Vec Ideal S7x12288x1 .f32)
  (g : Vec Ideal S7x3072x3072 .bf16)

theorem wt_real (hs : ∀ i, IsReal (s i)) (k : Fin 7) (o : Fin 12288) (l : Fin 3072) : IsReal (Cert.ReferenceIdeal.Hand.wt q s k o l) :=
  IsReal.mul ⟨_, rfl⟩ (hs _)

theorem rhs_real (hs : ∀ i, IsReal (s i)) (hg : ∀ i, IsReal (g i)) (o : Fin 12288) (j : Fin 3072) :
    IsReal (Cert.ReferenceIdeal.Hand.rhs q s g o j) :=
  (Cert.Hand.fin_c9.mul (IsReal.sum _ fun k => IsReal.sum _ fun l => (wt_real q s hs k o l).mul (hg _))).add
    (Cert.Hand.fin_c1.mul (IsReal.sum _ fun k => (wt_real q s hs k o j).mul (hg _)))

/-- The kernel's sum over the models, one model after another, is the reference's two scaled sums. -/
theorem rhsK_eq (e : ∀ k o, s' (ix3 k o 0) = s (ix2 k o)) (hs : ∀ i, IsReal (s i)) (hg : ∀ i, IsReal (g i)) (o : Fin 12288) (j : Fin 3072) :
    rhsK q s' g o j = Cert.ReferenceIdeal.Hand.rhs q s g o j := by
  have ew : ∀ k l, wtK q s' k o l = Cert.ReferenceIdeal.Hand.wt q s k o l := fun k l => by
    unfold wtK Cert.ReferenceIdeal.Hand.wt; rw [e]
  unfold rhsK Cert.ReferenceIdeal.Hand.rhs
  simp only [ew]
  exact Cert.Hand.rhs_eq Cert.Hand.fin_c9 Cert.Hand.fin_c1 (fun k l => Cert.ReferenceIdeal.Hand.wt q s k o l) (fun k l => g (ix3 k l j))
    (fun k => Cert.ReferenceIdeal.Hand.wt q s k o j) (fun k => g (ix3 k j j)) (fun k l => wt_real q s hs k o l) (fun k l => hg _)
    (fun k => wt_real q s hs k o j) (fun k => hg _)
end Math

/-- The planes as the second region finds them. -/
theorem found1 : A2 m c main_v1_0 = fun i : S12288x3072.Idx => rhsV (A1 m) c (i 0) (i 1) := (U2_arr m c 3).trans (plane1 (A1 m) c)
theorem found2 : A2 m c main_v1_1 = fun i : S12288x3072.Idx => rhsV (A1 m) c (i 0) (i 1) - rhsV (A1 m) c (i 0) (i 1) :=
  (U2_arr m c 4).trans (plane2 (A1 m) c)
theorem found3 : A2 m c main_v1_2 = fun i : S12288x3072.Idx =>
    (rhsV (A1 m) c (i 0) (i 1) - rhsV (A1 m) c (i 0) (i 1)) - (rhsV (A1 m) c (i 0) (i 1) - rhsV (A1 m) c (i 0) (i 1)) :=
  (U2_arr m c 5).trans (plane3 (A1 m) c)

/-- The right-hand side the first region computes, of the arguments as launched. -/
theorem rhsV_eq (hg : ∀ i, IsReal (m ((c : Thread nD τ).loc main_arg0) i)) (hs : ∀ i, IsReal (m ((c : Thread nD τ).loc main_arg2) i))
    (o : Fin 12288) (j : Fin 3072) :
    rhsV (A1 m) c o j = Cert.ReferenceIdeal.Hand.rhs (m ((c : Thread nD τ).loc main_arg1)) (m ((c : Thread nD τ).loc main_arg2))
      (m ((c : Thread nD τ).loc main_arg0)) o j := by
  have e0 : A1 m c main_arg0 = m ((c : Thread nD τ).loc main_arg0) := U1_main_arg0 m c
  have e1 : A1 m c main_arg1 = m ((c : Thread nD τ).loc main_arg1) := U1_main_arg1 m c
  unfold rhsV
  rw [e0, e1]
  exact rhsK_eq _ _ _ _ (scales_apply m c) hs hg o j

/-- The result of the run, at real arguments. -/
theorem result_eq (hg : ∀ i, IsReal (m ((c : Thread nD τ).loc main_arg0) i)) (hs : ∀ i, IsReal (m ((c : Thread nD τ).loc main_arg2) i))
    (h1 : ∀ i, IsReal (m ((c : Thread nD τ).loc main_arg3) i)) (h2 : ∀ i, IsReal (m ((c : Thread nD τ).loc main_arg4) i))
    (h3 : ∀ i, IsReal (m ((c : Thread nD τ).loc main_arg5) i)) :
    U3 m c main_v2 = Cert.ReferenceIdeal.Gen.k0_pay1 (F := Ideal) (m ((c : Thread nD τ).loc main_arg1)) (m ((c : Thread nD τ).loc main_arg2))
      (m ((c : Thread nD τ).loc main_arg0)) (m ((c : Thread nD τ).loc main_arg3)) (m ((c : Thread nD τ).loc main_arg4)) (m ((c : Thread nD τ).loc main_arg5)) := by
  have e3 : A2 m c main_arg3 = m ((c : Thread nD τ).loc main_arg3) := U2_main_arg3 m c
  have e4 : A2 m c main_arg4 = m ((c : Thread nD τ).loc main_arg4) := U2_main_arg4 m c
  have e5 : A2 m c main_arg5 = m ((c : Thread nD τ).loc main_arg5) := U2_main_arg5 m c
  refine ((U3_arr m c 6).trans (solved (A2 m) c)).trans (funext fun (i : S12288x3072.Idx) => ?_)
  rw [found1, found2, found3, e3, e4, e5]
  have er : ∀ l, rhsV (A1 m) c (i 0) l = _ := rhsV_eq m c hg hs (i 0)
  refine Eq.trans ?_ ((Cert.ReferenceIdeal.Hand.pay_apply _ _ _ _ _ _ (i 0) (i 1)).symm.trans (congrArg _ (eq_ix2 (n0 := 12288) (n1 := 3072) i).symm))
  unfold six
  refine Eq.trans ?_ (Cert.Hand.merge_eq (fun l => Cert.ReferenceIdeal.Hand.rhs _ _ _ (i 0) l) _ _ _ (fun l => rhs_real _ _ _ hs hg (i 0) l)
    (fun l => h1 (ix2 l (i 1))) (fun l => h2 (ix2 l (i 1))) (fun l => h3 (ix2 l (i 1))))
  simp only [← er]
  rfl

end Cert.KernelIdeal.Hand

end
-- ==== Proof.Finite.lean ====
/-
  What the precondition says at the extended reals: every element of every float argument is a real number.
-/
module

public import proofs.«01_k».proof.Proof.Gen.Pre_all_finite
public import proofs.«01_k».proof.Proof.Math
public import Idealize.ShloMosaic.Lib.Pointwise

@[expose] public section

noncomputable section

namespace Cert.Pre_all_finite.Hand

open Cert.Pre_all_finite Idealize.ShloMosaic

/-- The two formats' infinities. -/
theorem inf16 : Ideal.ofBits .bf16 0x7F80#16 = ⊤ := by
  simp only [Ideal.ofBits, Ideal.ieee]
  rw [if_pos (by decide), if_pos (by decide), if_neg (by decide)]
theorem inf32 : Ideal.ofBits .f32 0x7F800000#32 = ⊤ := by
  simp only [Ideal.ofBits, Ideal.ieee]
  rw [if_pos (by decide), if_pos (by decide), if_neg (by decide)]

/-- One comparison of an absolute value with an infinity that came out true. -/
theorem real_of_cmp {x y : EReal} (hy : y = ⊤) (h : Ideal.cmp .olt (max x (-x)) y = 1#1) : Cert.Hand.IsReal x := by
  subst hy
  apply Cert.Hand.fin_of_abs_lt
  by_contra hn
  simp [Ideal.cmp, hn] at h

variable (g : Vec Ideal S7x3072x3072 .bf16) (q : Vec Ideal S7x12288x3072 .i8) (s : Vec Ideal S7x12288 .f32)
    (a1 a2 a3 : Vec Ideal S3072x3072 .bf16)

theorem real0 (h : (fn (F := Ideal) g q s a1 a2 a3).1 = fun _ => 1#1) (i) : Cert.Hand.IsReal (g i) :=
  real_of_cmp inf16 (congrFun h i)
theorem real2 (h : (fn (F := Ideal) g q s a1 a2 a3).2.1 = fun _ => 1#1) (i) : Cert.Hand.IsReal (s i) :=
  real_of_cmp inf32 (congrFun h i)
theorem real3 (h : (fn (F := Ideal) g q s a1 a2 a3).2.2.1 = fun _ => 1#1) (i) : Cert.Hand.IsReal (a1 i) :=
  real_of_cmp inf16 (congrFun h i)
theorem real4 (h : (fn (F := Ideal) g q s a1 a2 a3).2.2.2.1 = fun _ => 1#1) (i) : Cert.Hand.IsReal (a2 i) :=
  real_of_cmp inf16 (congrFun h i)
theorem real5 (h : (fn (F := Ideal) g q s a1 a2 a3).2.2.2.2 = fun _ => 1#1) (i) : Cert.Hand.IsReal (a3 i) :=
  real_of_cmp inf16 (congrFun h i)

end Cert.Pre_all_finite.Hand

end
-- ==== Proof.lean ====
module

public import proofs.«01_k».proof.Defs
public import proofs.«01_k».proof.Proof.K.Run
public import proofs.«01_k».proof.Proof.KI.Run
public import proofs.«01_k».proof.Proof.KI.Value
public import proofs.«01_k».proof.Proof.Finite
public import proofs.«01_k».proof.Proof.Gen.ReferenceIdeal.Frame
public import proofs.«01_k».proof.Proof.Gen.ReferenceIdeal.Value
public import proofs.«01_k».proof.Proof.Gen.Pre_all_finite
public import Idealize.ShloMosaic.Adequacy
public import Idealize.ShloMosaic.Init

@[expose] public section

noncomputable section

namespace Cert.Proof

open Idealize.ShloMosaic Idealize.SL.Sem

/-- At finite arguments the kernel's result is the reference's of the same arguments. -/
theorem algebraic : Cert.algebraic_KernelIdeal_ReferenceIdeal_pre_all_finite (hKernelIdeal := Cert.KernelIdeal.Gen.facts)
    (hReferenceIdeal := Cert.ReferenceIdeal.Gen.facts) (hPre_all_finite := Cert.Pre_all_finite.Gen.facts) := by
  intro m g m' g' hpre hargs
  refine ⟨fun c => Cert.KernelIdeal.Hand.U3 m c (Proc.devRef .tc Cert.KernelIdeal.main_v2),
    (θ_run _ _ _).mono (fun _ h c => h.1 c) (Cert.KernelIdeal.Hand.run m g),
    (θ_run _ _ _).mono (fun _ h c => ⟨(h c).1.trans ?_, (h c).2⟩) (Cert.ReferenceIdeal.Value.run m' g')⟩
  obtain ⟨p0, p2, p3, p4, p5⟩ := hpre c
  obtain ⟨e0, e1, e2, e3, e4, e5⟩ := hargs c
  rw [e0, e1, e2, e3, e4, e5]
  exact (Cert.KernelIdeal.Hand.result_eq m c (Cert.Pre_all_finite.Hand.real0 _ _ _ _ _ _ p0) (Cert.Pre_all_finite.Hand.real2 _ _ _ _ _ _ p2)
    (Cert.Pre_all_finite.Hand.real3 _ _ _ _ _ _ p3) (Cert.Pre_all_finite.Hand.real4 _ _ _ _ _ _ p4)
    (Cert.Pre_all_finite.Hand.real5 _ _ _ _ _ _ p5)).symm

theorem claim : Cert.Claim := ⟨Cert.Kernel.Gen.facts, Cert.KernelIdeal.Gen.facts, Cert.ReferenceIdeal.Gen.facts, Cert.Pre_all_finite.Gen.facts,
  fun m g _ => (θ_run _ _ _).mono (fun _ h => ⟨fun c => (h.1 c).2, h.2⟩) (Cert.Kernel.Hand.run m g),
  fun m g _ => (θ_run _ _ _).mono (fun _ h => ⟨fun c => (h.1 c).2, h.2⟩) (Cert.KernelIdeal.Hand.run m g),
  fun m g _ => (θ_run _ _ _).mono (fun _ h => ⟨fun c => (h.1 c).2, h.2⟩) (Cert.KernelIdeal.Hand.run m g),
  fun m g _ => Cert.ReferenceIdeal.Gen.frame m g,
  fun m g _ => Cert.ReferenceIdeal.Gen.frame m g,
  trivial,
  algebraic⟩

end Cert.Proof

end
